-- ==== Defs.lean ====
def Pre_Kernel [hPre_segments_in_range : Cert.Pre_segments_in_range.Facts] (m : (ℓ : Loc Cert.Kernel.nD Cert.Kernel.τ Cert.Kernel.sig) → Buf (Elt Bits) ℓ) : Prop :=
  ∀ c : Dev Cert.Kernel.nD,
    (Cert.Pre_segments_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_segments_in_range : Cert.Pre_segments_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_segments_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_sorted_finite_unbiased [hPre_sorted_finite_unbiased : Cert.Pre_sorted_finite_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite_unbiased [hPre_sorted_finite_unbiased : Cert.Pre_sorted_finite_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_segments_in_range : Cert.Pre_segments_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_segments_in_range : Cert.Pre_segments_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_sorted_finite_unbiased [hKernelIdeal : Cert.KernelIdeal.Facts] [hPre_sorted_finite_unbiased : Cert.Pre_sorted_finite_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_sorted_finite_unbiased [hReferenceIdeal : Cert.ReferenceIdeal.Facts] [hPre_sorted_finite_unbiased : Cert.Pre_sorted_finite_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_sorted_finite_unbiased [hKernelIdeal : Cert.KernelIdeal.Facts] [hReferenceIdeal : Cert.ReferenceIdeal.Facts] [hPre_sorted_finite_unbiased : Cert.Pre_sorted_finite_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_segments_in_range : Cert.Pre_segments_in_range.Facts) (hPre_sorted_finite_unbiased : Cert.Pre_sorted_finite_unbiased.Facts),
    quiescent_Kernel (hKernel := hKernel) (hPre_segments_in_range := hPre_segments_in_range)
    ∧ quiescent_KernelIdeal (hKernelIdeal := hKernelIdeal) (hPre_segments_in_range := hPre_segments_in_range)
    ∧ quiescent_KernelIdeal_pre_sorted_finite_unbiased (hKernelIdeal := hKernelIdeal) (hPre_sorted_finite_unbiased := hPre_sorted_finite_unbiased)
    ∧ quiescent_ReferenceIdeal (hReferenceIdeal := hReferenceIdeal)
    ∧ quiescent_ReferenceIdeal_pre_sorted_finite_unbiased (hReferenceIdeal := hReferenceIdeal) (hPre_sorted_finite_unbiased := hPre_sorted_finite_unbiased)
    ∧ preserves_Kernel_KernelIdeal
    ∧ algebraic_KernelIdeal_ReferenceIdeal_pre_sorted_finite_unbiased (hKernelIdeal := hKernelIdeal) (hReferenceIdeal := hReferenceIdeal) (hPre_sorted_finite_unbiased := hPre_sorted_finite_unbiased)
-- ==== Pre_segments_in_range.lean ====
abbrev S320000x128 : Shape := ⟨2, ![320000, 128]⟩
abbrev S320000 : Shape := ⟨1, ![320000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) (main_arg2 : FVec F S128x256 .f32) (main_arg3 : FVec F S256 .f32) (main_arg4 : FVec F S256x128 .f32) (main_arg5 : FVec F S128 .f32) (main_arg6 : FVec F S128x256 .f32) (main_arg7 : FVec F S256 .f32) (main_arg8 : FVec F S256x128 .f32) (main_arg9 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Pre_sorted_finite_unbiased.lean ====
abbrev S320000x128 : Shape := ⟨2, ![320000, 128]⟩
abbrev S320000 : Shape := ⟨1, ![320000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S320000x128 : S_.BroadcastsInDim S320000x128 (![] : Fin 0 → Fin S320000x128.rank)
  reducesTo_S320000x128_S_d0_1 : S320000x128.ReducesTo [0, 1] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg4 : FVec F S256x128 .f32) (main_arg6 : FVec F S128x256 .f32) (main_v31 : IVec S_ 1) (main_v32 : FVec F S128x256 .f32) (main_cst_12 : FVec F S_ .f32) : IVec S_ 1 :=
  let main_v33 : FVec F S128x256 .f32 := broadcastInDim S128x256 ![] bcast_S_S128x256 main_cst_12
  let main_v34 : IVec S128x256 1 := cmpf .olt main_v32 main_v33
  let main_c_13 : IVec S_ 1 := constantI S_ 1 1#1
  let main_v35 : IVec S_ 1 := (fun x v => Host.reduce IntOp.andi x v reducesTo_S128x256_S_d0_1 h_S_) main_v34 main_c_13
  let main_v36 : IVec S_ 1 := andi main_v31 main_v35
  let main_v37 : FVec F S256x128 .f32 := Host.absf main_arg4
  let main_cst_14 : FVec F S_ .f32 := constant S_ .f32 0x7F800000#32
  let main_v38 : FVec F S256x128 .f32 := broadcastInDim S256x128 ![] bcast_S_S256x128 main_cst_14
  let main_v39 : IVec S256x128 1 := cmpf .olt main_v37 main_v38
  let main_c_15 : IVec S_ 1 := constantI S_ 1 1#1
  let main_v40 : IVec S_ 1 := (fun x v => Host.reduce IntOp.andi x v reducesTo_S256x128_S_d0_1 h_S_) main_v39 main_c_15
  let main_v41 : IVec S_ 1 := andi main_v36 main_v40
  let main_v42 : FVec F S128x256 .f32 := Host.absf main_arg6
  let main_cst_16 : FVec F S_ .f32 := constant S_ .f32 0x7F800000#32
  let main_v43 : FVec F S128x256 .f32 := broadcastInDim S128x256 ![] bcast_S_S128x256 main_cst_16
  let main_v44 : IVec S128x256 1 := cmpf .olt main_v42 main_v43
  let main_c_17 : IVec S_ 1 := constantI S_ 1 1#1
  let main_v45 : IVec S_ 1 := (fun x v => Host.reduce IntOp.andi x v reducesTo_S128x256_S_d0_1 h_S_) main_v44 main_c_17
  let main_v46 : IVec S_ 1 := andi main_v41 main_v45
  main_v46

def fn_part1 {F : FTy → Type} [FloatOps F] (main_arg0 : FVec F S320000x128 .f32) (main_arg2 : FVec F S128x256 .f32) (main_arg4 : FVec F S256x128 .f32) (main_arg6 : FVec F S128x256 .f32) (main_arg7 : FVec F S256 .f32) (main_arg9 : FVec F S128 .f32) (main_v14 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v14 main_v17
  let main_cst_6 : FVec F S_ .f32 := constant S_ .f32 0x00000000#32
  let main_v19 : FVec F S256 .f32 := broadcastInDim S256 ![] bcast_S_S256 main_cst_6
  let main_v20 : IVec S256 1 := cmpf .oeq main_arg7 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v18 main_v21
  let main_cst_8 : FVec F S_ .f32 := constant S_ .f32 0x00000000#32
  let main_v23 : FVec F S128 .f32 := broadcastInDim S128 ![] bcast_S_S128 main_cst_8
  let main_v24 : IVec S128 1 := cmpf .oeq main_arg9 main_v23
  let main_c_9 : IVec S_ 1 := constantI S_ 1 1#1
  let main_v25 : IVec S_ 1 := (fun x v => Host.reduce IntOp.andi x v reducesTo_S128_S_d0 h_S_) main_v24 main_c_9
  let main_v26 : IVec S_ 1 := andi main_v22 main_v25
  let main_v27 : FVec F S320000x128 .f32 := Host.absf main_arg0
  let main_cst_10 : FVec F S_ .f32 := constant S_ .f32 0x7F800000#32
  let main_v28 : FVec F S320000x128 .f32 := broadcastInDim S320000x128 ![] bcast_S_S320000x128 main_cst_10
  let main_v29 : IVec S320000x128 1 := cmpf .olt main_v27 main_v28
  let main_c_11 : IVec S_ 1 := constantI S_ 1 1#1
  let main_v30 : IVec S_ 1 := (fun x v => Host.reduce IntOp.andi x v reducesTo_S320000x128_S_d0_1 h_S_) main_v29 main_c_11
  let main_v31 : IVec S_ 1 := andi main_v26 main_v30
  let main_v32 : FVec F S128x256 .f32 := Host.absf main_arg2
  let main_cst_12 : FVec F S_ .f32 := constant S_ .f32 0x7F800000#32
  fn_part2 (F := F) main_arg4 main_arg6 main_v31 main_v32 main_cst_12

def fn {F : FTy → Type} [FloatOps F] (main_arg0 : FVec F S320000x128 .f32) (main_arg1 : IVec S320000 32) (main_arg2 : FVec F S128x256 .f32) (main_arg3 : FVec F S256 .f32) (main_arg4 : FVec F S256x128 .f32) (main_arg5 : FVec F S128 .f32) (main_arg6 : FVec F S128x256 .f32) (main_arg7 : FVec F S256 .f32) (main_arg8 : FVec F S256x128 .f32) (main_arg9 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  let main_v6 : IVec S319999 32 := (extractStridedSlice S319999 ![0] · slices_S320000_S319999_0) main_arg1
  let main_v7 : IVec S319999 32 := (extractStridedSlice S319999 ![1] · slices_S320000_S319999_1) main_arg1
  let main_v8 : IVec S319999 1 := cmpi .sle main_v6 main_v7
  let main_c_2 : IVec S_ 1 := constantI S_ 1 1#1
  let main_v9 : IVec S_ 1 := (fun x v => Host.reduce IntOp.andi x v reducesTo_S319999_S_d0 h_S_) main_v8 main_c_2
  let main_v10 : IVec S_ 1 := andi main_v5 main_v9
  let main_cst : FVec F S_ .f32 := constant S_ .f32 0x00000000#32
  let main_v11 : FVec F S256 .f32 := broadcastInDim S256 ![] bcast_S_S256 main_cst
  let main_v12 : IVec S256 1 := cmpf .oeq main_arg3 main_v11
  let main_c_3 : IVec S_ 1 := constantI S_ 1 1#1
  let main_v13 : IVec S_ 1 := (fun x v => Host.reduce IntOp.andi x v reducesTo_S256_S_d0 h_S_) main_v12 main_c_3
  let main_v14 : IVec S_ 1 := andi main_v10 main_v13
  let main_cst_4 : FVec F S_ .f32 := constant S_ .f32 0x00000000#32
  let main_v15 : FVec F S128 .f32 := broadcastInDim S128 ![] bcast_S_S128 main_cst_4
  let main_v16 : IVec S128 1 := cmpf .oeq main_arg5 main_v15
  fn_part1 (F := F) main_arg0 main_arg2 main_arg4 main_arg6 main_arg7 main_arg9 main_v14 main_v16
-- ==== Kernel.lean ====
abbrev S320000x128 : Shape := ⟨2, ![320000, 128]⟩
abbrev S320000 : Shape := ⟨1, ![320000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S125x1x2560 : Shape := ⟨3, ![125, 1, 2560]⟩
abbrev S10240x256 : Shape := ⟨2, ![10240, 256]⟩
abbrev S2560x128 : Shape := ⟨2, ![2560, 128]⟩
abbrev S1x1x2560 : Shape := ⟨3, ![1, 1, 2560]⟩
abbrev S2560x256 : Shape := ⟨2, ![2560, 256]⟩
abbrev S2560 : Shape := ⟨1, ![2560]⟩
abbrev S1x2560 : Shape := ⟨2, ![1, 2560]⟩
abbrev S1 : Shape := ⟨1, ![1]⟩
abbrev S1x1 : Shape := ⟨2, ![1, 1]⟩
abbrev S128x2560 : Shape := ⟨2, ![128, 2560]⟩
abbrev S10240x128 : Shape := ⟨2, ![10240, 128]⟩
abbrev S2048x256 : Shape := ⟨2, ![2048, 256]⟩
abbrev S2048x128 : Shape := ⟨2, ![2048, 128]⟩
abbrev S256x256 : Shape := ⟨2, ![256, 256]⟩
abbrev S10000x128 : Shape := ⟨2, ![10000, 128]⟩

abbrev nBuf : Space → Nat
  | .hbm => 18
  | .vmem => 15
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S125x1x2560, .i32⟩
  | .hbm, ⟨11, _⟩ => ⟨S128x256, .bf16⟩
  | .hbm, ⟨12, _⟩ => ⟨S10240x256, .f32⟩
  | .hbm, ⟨13, _⟩ => ⟨S256x128, .bf16⟩
  | .hbm, ⟨14, _⟩ => ⟨S128x256, .bf16⟩
  | .hbm, ⟨15, _⟩ => ⟨S256x128, .bf16⟩
  | .hbm, ⟨16, _⟩ => ⟨S10240x128, .f32⟩
  | .hbm, ⟨17, _⟩ => ⟨S10000x128, .f32⟩
  | .local _ .vmem, ⟨0, _⟩ => ⟨S2560x128, .f32⟩
  | .local _ .vmem, ⟨1, _⟩ => ⟨S2560x128, .f32⟩
  | .local _ .vmem, ⟨2, _⟩ => ⟨S1x1x2560, .i32⟩
  | .local _ .vmem, ⟨3, _⟩ => ⟨S1x1x2560, .i32⟩
  | .local _ .vmem, ⟨4, _⟩ => ⟨S1x1x2560, .i32⟩
  | .local _ .vmem, ⟨5, _⟩ => ⟨S1x1x2560, .i32⟩
  | .local _ .vmem, ⟨6, _⟩ => ⟨S128x256, .bf16⟩
  | .local _ .vmem, ⟨7, _⟩ => ⟨S10240x256, .f32⟩
  | .local _ .vmem, ⟨8, _⟩ => ⟨S2048x256, .f32⟩
  | .local _ .vmem, ⟨9, _⟩ => ⟨S2048x256, .f32⟩
  | .local _ .vmem, ⟨10, _⟩ => ⟨S256x128, .bf16⟩
  | .local _ .vmem, ⟨11, _⟩ => ⟨S128x256, .bf16⟩
  | .local _ .vmem, ⟨12, _⟩ => ⟨S256x128, .bf16⟩
  | .local _ .vmem, ⟨13, _⟩ => ⟨S2048x128, .f32⟩
  | .local _ .vmem, ⟨14, _⟩ => ⟨S2048x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![125], ![false]⟩

@[reducible] def k0_t1_loop (i : grid0.Coords) (v13 : BitVec 32) (v19 : BitVec 32) : Scf.Loop 32 :=
  let c0_i32_36 : BitVec 32 := 0#32
  let arg0 : BitVec 32 := BitVec.ofNat 32 (i 0).val
  let c124_i32 : BitVec 32 := 124#32
  let v40 : BitVec 1 := Scalar.cmpi .eq arg0 c124_i32
  let c9984_i32 : BitVec 32 := 9984#32
  let c0_i32_20 : BitVec 32 := 0#32
  let v42 : BitVec 1 := Scalar.cmpi .sgt v13 c0_i32_20
  let v43 : BitVec 32 := Scalar.extui v42
  let c0_i32_21 : BitVec 32 := 0#32
  let v44 : BitVec 1 := Scalar.cmpi .slt v13 c0_i32_21
  let v45 : BitVec 32 := Scalar.extui v44
  let v46 : BitVec 32 := Scalar.subi v43 v45
  let c128_i32_19 : BitVec 32 := 128#32
  let c0_i32_22 : BitVec 32 := 0#32
  let v47 : BitVec 1 := Scalar.cmpi .sgt c128_i32_19 c0_i32_22
  let v48 : BitVec 32 := Scalar.extui v47
  let c0_i32_23 : BitVec 32 := 0#32
  let v49 : BitVec 1 := Scalar.cmpi .slt c128_i32_19 c0_i32_23
  let v50 : BitVec 32 := Scalar.extui v49
  let v51 : BitVec 32 := Scalar.subi v48 v50
  let v52 : BitVec 1 := Scalar.cmpi .ne v46 v51
  let v53 : BitVec 32 := Scalar.remsi v13 c128_i32_19
  let c0_i32_24 : BitVec 32 := 0#32
  let v54 : BitVec 1 := Scalar.cmpi .ne v53 c0_i32_24
  let v55 : BitVec 1 := Scalar.andi v52 v54
  let v41 : BitVec 32 := Scalar.divsi v13 c128_i32_19
  let c1_i32_25 : BitVec 32 := 1#32
  let v56 : BitVec 32 := Scalar.subi v41 c1_i32_25
  let v57 : BitVec 32 := Scalar.select v55 v56 v41
  let c128_i32_26 : BitVec 32 := 128#32
  let v58 : BitVec 32 := Scalar.muli v57 c128_i32_26
  let v59 : BitVec 32 := Scalar.select v40 c9984_i32 v58
  let c0_i32 : BitVec 32 := 0#32
  let v20 : BitVec 1 := Scalar.cmpi .eq arg0 c0_i32
  let c0_i32_18 : BitVec 32 := 0#32
  let c0_i32_12 : BitVec 32 := 0#32
  let v22 : BitVec 1 := Scalar.cmpi .sgt v19 c0_i32_12
  let v23 : BitVec 32 := Scalar.extui v22
  let c0_i32_13 : BitVec 32 := 0#32
  let v24 : BitVec 1 := Scalar.cmpi .slt v19 c0_i32_13
  let v25 : BitVec 32 := Scalar.extui v24
  let v26 : BitVec 32 := Scalar.subi v23 v25
  let c128_i32 : BitVec 32 := 128#32
  let c0_i32_14 : BitVec 32 := 0#32
  let v27 : BitVec 1 := Scalar.cmpi .sgt c128_i32 c0_i32_14
  let v28 : BitVec 32 := Scalar.extui v27
  let c0_i32_15 : BitVec 32 := 0#32
  let v29 : BitVec 1 := Scalar.cmpi .slt c128_i32 c0_i32_15
  let v30 : BitVec 32 := Scalar.extui v29
  let v31 : BitVec 32 := Scalar.subi v28 v30
  let v32 : BitVec 1 := Scalar.cmpi .ne v26 v31
  let v33 : BitVec 32 := Scalar.remsi v19 c128_i32
  let c0_i32_16 : BitVec 32 := 0#32
  let v34 : BitVec 1 := Scalar.cmpi .ne v33 c0_i32_16
  let v35 : BitVec 1 := Scalar.andi v32 v34
  let v21 : BitVec 32 := Scalar.divsi v19 c128_i32
  let c1_i32 : BitVec 32 := 1#32
  let v36 : BitVec 32 := Scalar.subi v21 c1_i32
  let v37 : BitVec 32 := Scalar.select v35 v36 v21
  let c128_i32_17 : BitVec 32 := 128#32
  let v38 : BitVec 32 := Scalar.muli v37 c128_i32_17
  let v39 : BitVec 32 := Scalar.select v20 c0_i32_18 v38
  let v60 : BitVec 32 := Scalar.subi v59 v39
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c128_i32_27 : BitVec 32 := 128#32
  let c0_i32_30 : BitVec 32 := 0#32
  let v67 : BitVec 1 := Scalar.cmpi .sgt c128_i32_27 c0_i32_30
  let v68 : BitVec 32 := Scalar.extui v67
  let c0_i32_31 : BitVec 32 := 0#32
  let v69 : BitVec 1 := Scalar.cmpi .slt c128_i32_27 c0_i32_31
  let v70 : BitVec 32 := Scalar.extui v69
  let v71 : BitVec 32 := Scalar.subi v68 v70
  let v72 : BitVec 1 := Scalar.cmpi .ne v66 v71
  let v73 : BitVec 32 := Scalar.remsi v60 c128_i32_27
  let c0_i32_32 : BitVec 32 := 0#32
  let v74 : BitVec 1 := Scalar.cmpi .ne v73 c0_i32_32
  let v75 : BitVec 1 := Scalar.andi v72 v74
  let v61 : BitVec 32 := Scalar.divsi v60 c128_i32_27
  let c1_i32_33 : BitVec 32 := 1#32
  let v76 : BitVec 32 := Scalar.subi v61 c1_i32_33
  let v77 : BitVec 32 := Scalar.select v75 v76 v61
  let c1_i32_34 : BitVec 32 := 1#32
  let v78 : BitVec 32 := Scalar.addi v77 c1_i32_34
  let v79 : BitVec 32 := Scalar.subi v78 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_38 : BitVec 32 := 1#32
  ⟨c0_i32_36, v83, c1_i32_38⟩

def k0_mult1 (i : grid0.Coords) (v13 : BitVec 32) (v19 : BitVec 32) (k0_t1 : Fin (k0_t1_loop i v13 v19).trips) : BitVec 32 :=
  let arg0 : BitVec 32 := BitVec.ofNat 32 (i 0).val
  let c0_i32 : BitVec 32 := 0#32
  let v20 : BitVec 1 := Scalar.cmpi .eq arg0 c0_i32
  let c0_i32_18 : BitVec 32 := 0#32
  let c0_i32_12 : BitVec 32 := 0#32
  let v22 : BitVec 1 := Scalar.cmpi .sgt v19 c0_i32_12
  let v23 : BitVec 32 := Scalar.extui v22
  let c0_i32_13 : BitVec 32 := 0#32
  let v24 : BitVec 1 := Scalar.cmpi .slt v19 c0_i32_13
  let v25 : BitVec 32 := Scalar.extui v24
  let v26 : BitVec 32 := Scalar.subi v23 v25
  let c128_i32 : BitVec 32 := 128#32
  let c0_i32_14 : BitVec 32 := 0#32
  let v27 : BitVec 1 := Scalar.cmpi .sgt c128_i32 c0_i32_14
  let v28 : BitVec 32 := Scalar.extui v27
  let c0_i32_15 : BitVec 32 := 0#32
  let v29 : BitVec 1 := Scalar.cmpi .slt c128_i32 c0_i32_15
  let v30 : BitVec 32 := Scalar.extui v29
  let v31 : BitVec 32 := Scalar.subi v28 v30
  let v32 : BitVec 1 := Scalar.cmpi .ne v26 v31
  let v33 : BitVec 32 := Scalar.remsi v19 c128_i32
  let c0_i32_16 : BitVec 32 := 0#32
  let v34 : BitVec 1 := Scalar.cmpi .ne v33 c0_i32_16
  let v35 : BitVec 1 := Scalar.andi v32 v34
  let v21 : BitVec 32 := Scalar.divsi v19 c128_i32
  let c1_i32 : BitVec 32 := 1#32
  let v36 : BitVec 32 := Scalar.subi v21 c1_i32
  let v37 : BitVec 32 := Scalar.select v35 v36 v21
  let c128_i32_17 : BitVec 32 := 128#32
  let v38 : BitVec 32 := Scalar.muli v37 c128_i32_17
  let v39 : BitVec 32 := Scalar.select v20 c0_i32_18 v38
  let c0_i32_36 : BitVec 32 := 0#32
  let c1_i32_38 : BitVec 32 := 1#32
  let arg6 : BitVec 32 := Scf.iv c0_i32_36 c1_i32_38 k0_t1
  let c128_i32_40 : BitVec 32 := 128#32
  let v84 : BitVec 32 := Scalar.muli arg6 c128_i32_40
  let v85 : BitVec 32 := Scalar.addi v39 v84
  v85
def k0_off1 (i : grid0.Coords) (v13 : BitVec 32) (v19 : BitVec 32) (k0_t1 : Fin (k0_t1_loop i v13 v19).trips) : Fin 2 → Nat :=
  let arg0 : BitVec 32 := BitVec.ofNat 32 (i 0).val
  let c0_i32 : BitVec 32 := 0#32
  let v20 : BitVec 1 := Scalar.cmpi .eq arg0 c0_i32
  let c0_i32_18 : BitVec 32 := 0#32
  let c0_i32_12 : BitVec 32 := 0#32
  let v22 : BitVec 1 := Scalar.cmpi .sgt v19 c0_i32_12
  let v23 : BitVec 32 := Scalar.extui v22
  let c0_i32_13 : BitVec 32 := 0#32
  let v24 : BitVec 1 := Scalar.cmpi .slt v19 c0_i32_13
  let v25 : BitVec 32 := Scalar.extui v24
  let v26 : BitVec 32 := Scalar.subi v23 v25
  let c128_i32 : BitVec 32 := 128#32
  let c0_i32_14 : BitVec 32 := 0#32
  let v27 : BitVec 1 := Scalar.cmpi .sgt c128_i32 c0_i32_14
  let v28 : BitVec 32 := Scalar.extui v27
  let c0_i32_15 : BitVec 32 := 0#32
  let v29 : BitVec 1 := Scalar.cmpi .slt c128_i32 c0_i32_15
  let v30 : BitVec 32 := Scalar.extui v29
  let v31 : BitVec 32 := Scalar.subi v28 v30
  let v32 : BitVec 1 := Scalar.cmpi .ne v26 v31
  let v33 : BitVec 32 := Scalar.remsi v19 c128_i32
  let c0_i32_16 : BitVec 32 := 0#32
  let v34 : BitVec 1 := Scalar.cmpi .ne v33 c0_i32_16
  let v35 : BitVec 1 := Scalar.andi v32 v34
  let v21 : BitVec 32 := Scalar.divsi v19 c128_i32
  let c1_i32 : BitVec 32 := 1#32
  let v36 : BitVec 32 := Scalar.subi v21 c1_i32
  let v37 : BitVec 32 := Scalar.select v35 v36 v21
  let c128_i32_17 : BitVec 32 := 128#32
  let v38 : BitVec 32 := Scalar.muli v37 c128_i32_17
  let v39 : BitVec 32 := Scalar.select v20 c0_i32_18 v38
  let c0_i32_36 : BitVec 32 := 0#32
  let c1_i32_38 : BitVec 32 := 1#32
  let arg6 : BitVec 32 := Scf.iv c0_i32_36 c1_i32_38 k0_t1
  let c128_i32_40 : BitVec 32 := 128#32
  let v84 : BitVec 32 := Scalar.muli arg6 c128_i32_40
  let v85 : BitVec 32 := Scalar.addi v39 v84
  let v86 : BitVec 32 := v85
  let v100 : Index := Scalar.indexCast v86
  let c0_43 : Index := 0#32
  ![v100.toNat, 0]
@[reducible] def k0_t2_loop (i : grid0.Coords) (v13 : BitVec 32) (v19 : BitVec 32) : Scf.Loop 32 :=
  let c0_i32_36 : BitVec 32 := 0#32
  let arg0 : BitVec 32 := BitVec.ofNat 32 (i 0).val
  let c124_i32 : BitVec 32 := 124#32
  let v40 : BitVec 1 := Scalar.cmpi .eq arg0 c124_i32
  let c9984_i32 : BitVec 32 := 9984#32
  let c0_i32_20 : BitVec 32 := 0#32
  let v42 : BitVec 1 := Scalar.cmpi .sgt v13 c0_i32_20
  let v43 : BitVec 32 := Scalar.extui v42
  let c0_i32_21 : BitVec 32 := 0#32
  let v44 : BitVec 1 := Scalar.cmpi .slt v13 c0_i32_21
  let v45 : BitVec 32 := Scalar.extui v44
  let v46 : BitVec 32 := Scalar.subi v43 v45
  let c128_i32_19 : BitVec 32 := 128#32
  let c0_i32_22 : BitVec 32 := 0#32
  let v47 : BitVec 1 := Scalar.cmpi .sgt c128_i32_19 c0_i32_22
  let v48 : BitVec 32 := Scalar.extui v47
  let c0_i32_23 : BitVec 32 := 0#32
  let v49 : BitVec 1 := Scalar.cmpi .slt c128_i32_19 c0_i32_23
  let v50 : BitVec 32 := Scalar.extui v49
  let v51 : BitVec 32 := Scalar.subi v48 v50
  let v52 : BitVec 1 := Scalar.cmpi .ne v46 v51
  let v53 : BitVec 32 := Scalar.remsi v13 c128_i32_19
  let c0_i32_24 : BitVec 32 := 0#32
  let v54 : BitVec 1 := Scalar.cmpi .ne v53 c0_i32_24
  let v55 : BitVec 1 := Scalar.andi v52 v54
  let v41 : BitVec 32 := Scalar.divsi v13 c128_i32_19
  let c1_i32_25 : BitVec 32 := 1#32
  let v56 : BitVec 32 := Scalar.subi v41 c1_i32_25
  let v57 : BitVec 32 := Scalar.select v55 v56 v41
  let c128_i32_26 : BitVec 32 := 128#32
  let v58 : BitVec 32 := Scalar.muli v57 c128_i32_26
  let v59 : BitVec 32 := Scalar.select v40 c9984_i32 v58
  let c0_i32 : BitVec 32 := 0#32
  let v20 : BitVec 1 := Scalar.cmpi .eq arg0 c0_i32
  let c0_i32_18 : BitVec 32 := 0#32
  let c0_i32_12 : BitVec 32 := 0#32
  let v22 : BitVec 1 := Scalar.cmpi .sgt v19 c0_i32_12
  let v23 : BitVec 32 := Scalar.extui v22
  let c0_i32_13 : BitVec 32 := 0#32
  let v24 : BitVec 1 := Scalar.cmpi .slt v19 c0_i32_13
  let v25 : BitVec 32 := Scalar.extui v24
  let v26 : BitVec 32 := Scalar.subi v23 v25
  let c128_i32 : BitVec 32 := 128#32
  let c0_i32_14 : BitVec 32 := 0#32
  let v27 : BitVec 1 := Scalar.cmpi .sgt c128_i32 c0_i32_14
  let v28 : BitVec 32 := Scalar.extui v27
  let c0_i32_15 : BitVec 32 := 0#32
  let v29 : BitVec 1 := Scalar.cmpi .slt c128_i32 c0_i32_15
  let v30 : BitVec 32 := Scalar.extui v29
  let v31 : BitVec 32 := Scalar.subi v28 v30
  let v32 : BitVec 1 := Scalar.cmpi .ne v26 v31
  let v33 : BitVec 32 := Scalar.remsi v19 c128_i32
  let c0_i32_16 : BitVec 32 := 0#32
  let v34 : BitVec 1 := Scalar.cmpi .ne v33 c0_i32_16
  let v35 : BitVec 1 := Scalar.andi v32 v34
  let v21 : BitVec 32 := Scalar.divsi v19 c128_i32
  let c1_i32 : BitVec 32 := 1#32
  let v36 : BitVec 32 := Scalar.subi v21 c1_i32
  let v37 : BitVec 32 := Scalar.select v35 v36 v21
  let c128_i32_17 : BitVec 32 := 128#32
  let v38 : BitVec 32 := Scalar.muli v37 c128_i32_17
  let v39 : BitVec 32 := Scalar.select v20 c0_i32_18 v38
  let v60 : BitVec 32 := Scalar.subi v59 v39
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c128_i32_27 : BitVec 32 := 128#32
  let c0_i32_30 : BitVec 32 := 0#32
  let v67 : BitVec 1 := Scalar.cmpi .sgt c128_i32_27 c0_i32_30
  let v68 : BitVec 32 := Scalar.extui v67
  let c0_i32_31 : BitVec 32 := 0#32
  let v69 : BitVec 1 := Scalar.cmpi .slt c128_i32_27 c0_i32_31
  let v70 : BitVec 32 := Scalar.extui v69
  let v71 : BitVec 32 := Scalar.subi v68 v70
  let v72 : BitVec 1 := Scalar.cmpi .ne v66 v71
  let v73 : BitVec 32 := Scalar.remsi v60 c128_i32_27
  let c0_i32_32 : BitVec 32 := 0#32
  let v74 : BitVec 1 := Scalar.cmpi .ne v73 c0_i32_32
  let v75 : BitVec 1 := Scalar.andi v72 v74
  let v61 : BitVec 32 := Scalar.divsi v60 c128_i32_27
  let c1_i32_33 : BitVec 32 := 1#32
  let v76 : BitVec 32 := Scalar.subi v61 c1_i32_33
  let v77 : BitVec 32 := Scalar.select v75 v76 v61
  let c1_i32_34 : BitVec 32 := 1#32
  let v78 : BitVec 32 := Scalar.addi v77 c1_i32_34
  let v79 : BitVec 32 := Scalar.subi v78 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let v80 : BitVec 32 := Scalar.addi c0_i32_36 v79
  let c1_i32_39 : BitVec 32 := 1#32
  ⟨v83, v80, c1_i32_39⟩
def k0_mult2 (i : grid0.Coords) (v13 : BitVec 32) (v19 : BitVec 32) (k0_t2 : Fin (k0_t2_loop i v13 v19).trips) : BitVec 32 :=
  let arg0 : BitVec 32 := BitVec.ofNat 32 (i 0).val
  let c0_i32 : BitVec 32 := 0#32
  let v20 : BitVec 1 := Scalar.cmpi .eq arg0 c0_i32
  let c0_i32_18 : BitVec 32 := 0#32
  let c0_i32_12 : BitVec 32 := 0#32
  let v22 : BitVec 1 := Scalar.cmpi .sgt v19 c0_i32_12
  let v23 : BitVec 32 := Scalar.extui v22
  let c0_i32_13 : BitVec 32 := 0#32
  let v24 : BitVec 1 := Scalar.cmpi .slt v19 c0_i32_13
  let v25 : BitVec 32 := Scalar.extui v24
  let v26 : BitVec 32 := Scalar.subi v23 v25
  let c128_i32 : BitVec 32 := 128#32
  let c0_i32_14 : BitVec 32 := 0#32
  let v27 : BitVec 1 := Scalar.cmpi .sgt c128_i32 c0_i32_14
  let v28 : BitVec 32 := Scalar.extui v27
  let c0_i32_15 : BitVec 32 := 0#32
  let v29 : BitVec 1 := Scalar.cmpi .slt c128_i32 c0_i32_15
  let v30 : BitVec 32 := Scalar.extui v29
  let v31 : BitVec 32 := Scalar.subi v28 v30
  let v32 : BitVec 1 := Scalar.cmpi .ne v26 v31
  let v33 : BitVec 32 := Scalar.remsi v19 c128_i32
  let c0_i32_16 : BitVec 32 := 0#32
  let v34 : BitVec 1 := Scalar.cmpi .ne v33 c0_i32_16
  let v35 : BitVec 1 := Scalar.andi v32 v34
  let v21 : BitVec 32 := Scalar.divsi v19 c128_i32
  let c1_i32 : BitVec 32 := 1#32
  let v36 : BitVec 32 := Scalar.subi v21 c1_i32
  let v37 : BitVec 32 := Scalar.select v35 v36 v21
  let c128_i32_17 : BitVec 32 := 128#32
  let v38 : BitVec 32 := Scalar.muli v37 c128_i32_17
  let v39 : BitVec 32 := Scalar.select v20 c0_i32_18 v38
  let c0_i32_36 : BitVec 32 := 0#32
  let c124_i32 : BitVec 32 := 124#32
  let v40 : BitVec 1 := Scalar.cmpi .eq arg0 c124_i32
  let c9984_i32 : BitVec 32 := 9984#32
  let c0_i32_20 : BitVec 32 := 0#32
  let v42 : BitVec 1 := Scalar.cmpi .sgt v13 c0_i32_20
  let v43 : BitVec 32 := Scalar.extui v42
  let c0_i32_21 : BitVec 32 := 0#32
  let v44 : BitVec 1 := Scalar.cmpi .slt v13 c0_i32_21
  let v45 : BitVec 32 := Scalar.extui v44
  let v46 : BitVec 32 := Scalar.subi v43 v45
  let c128_i32_19 : BitVec 32 := 128#32
  let c0_i32_22 : BitVec 32 := 0#32
  let v47 : BitVec 1 := Scalar.cmpi .sgt c128_i32_19 c0_i32_22
  let v48 : BitVec 32 := Scalar.extui v47
  let c0_i32_23 : BitVec 32 := 0#32
  let v49 : BitVec 1 := Scalar.cmpi .slt c128_i32_19 c0_i32_23
  let v50 : BitVec 32 := Scalar.extui v49
  let v51 : BitVec 32 := Scalar.subi v48 v50
  let v52 : BitVec 1 := Scalar.cmpi .ne v46 v51
  let v53 : BitVec 32 := Scalar.remsi v13 c128_i32_19
  let c0_i32_24 : BitVec 32 := 0#32
  let v54 : BitVec 1 := Scalar.cmpi .ne v53 c0_i32_24
  let v55 : BitVec 1 := Scalar.andi v52 v54
  let v41 : BitVec 32 := Scalar.divsi v13 c128_i32_19
  let c1_i32_25 : BitVec 32 := 1#32
  let v56 : BitVec 32 := Scalar.subi v41 c1_i32_25
  let v57 : BitVec 32 := Scalar.select v55 v56 v41
  let c128_i32_26 : BitVec 32 := 128#32
  let v58 : BitVec 32 := Scalar.muli v57 c128_i32_26
  let v59 : BitVec 32 := Scalar.select v40 c9984_i32 v58
  let v60 : BitVec 32 := Scalar.subi v59 v39
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c128_i32_27 : BitVec 32 := 128#32
  let c0_i32_30 : BitVec 32 := 0#32
  let v67 : BitVec 1 := Scalar.cmpi .sgt c128_i32_27 c0_i32_30
  let v68 : BitVec 32 := Scalar.extui v67
  let c0_i32_31 : BitVec 32 := 0#32
  let v69 : BitVec 1 := Scalar.cmpi .slt c128_i32_27 c0_i32_31
  let v70 : BitVec 32 := Scalar.extui v69
  let v71 : BitVec 32 := Scalar.subi v68 v70
  let v72 : BitVec 1 := Scalar.cmpi .ne v66 v71
  let v73 : BitVec 32 := Scalar.remsi v60 c128_i32_27
  let c0_i32_32 : BitVec 32 := 0#32
  let v74 : BitVec 1 := Scalar.cmpi .ne v73 c0_i32_32
  let v75 : BitVec 1 := Scalar.andi v72 v74
  let v61 : BitVec 32 := Scalar.divsi v60 c128_i32_27
  let c1_i32_33 : BitVec 32 := 1#32
  let v76 : BitVec 32 := Scalar.subi v61 c1_i32_33
  let v77 : BitVec 32 := Scalar.select v75 v76 v61
  let c1_i32_34 : BitVec 32 := 1#32
  let v78 : BitVec 32 := Scalar.addi v77 c1_i32_34
  let v79 : BitVec 32 := Scalar.subi v78 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_39 : BitVec 32 := 1#32
  let arg6 : BitVec 32 := Scf.iv v83 c1_i32_39 k0_t2
  let c128_i32_40 : BitVec 32 := 128#32
  let v84 : BitVec 32 := Scalar.muli arg6 c128_i32_40
  let v85 : BitVec 32 := Scalar.addi v39 v84
  v85
def k0_off2 (i : grid0.Coords) (v13 : BitVec 32) (v19 : BitVec 32) (k0_t2 : Fin (k0_t2_loop i v13 v19).trips) : Fin 2 → Nat :=
  let arg0 : BitVec 32 := BitVec.ofNat 32 (i 0).val
  let c0_i32 : BitVec 32 := 0#32
  let v20 : BitVec 1 := Scalar.cmpi .eq arg0 c0_i32
  let c0_i32_18 : BitVec 32 := 0#32
  let c0_i32_12 : BitVec 32 := 0#32
  let v22 : BitVec 1 := Scalar.cmpi .sgt v19 c0_i32_12
  let v23 : BitVec 32 := Scalar.extui v22
  let c0_i32_13 : BitVec 32 := 0#32
  let v24 : BitVec 1 := Scalar.cmpi .slt v19 c0_i32_13
  let v25 : BitVec 32 := Scalar.extui v24
  let v26 : BitVec 32 := Scalar.subi v23 v25
  let c128_i32 : BitVec 32 := 128#32
  let c0_i32_14 : BitVec 32 := 0#32
  let v27 : BitVec 1 := Scalar.cmpi .sgt c128_i32 c0_i32_14
  let v28 : BitVec 32 := Scalar.extui v27
  let c0_i32_15 : BitVec 32 := 0#32
  let v29 : BitVec 1 := Scalar.cmpi .slt c128_i32 c0_i32_15
  let v30 : BitVec 32 := Scalar.extui v29
  let v31 : BitVec 32 := Scalar.subi v28 v30
  let v32 : BitVec 1 := Scalar.cmpi .ne v26 v31
  let v33 : BitVec 32 := Scalar.remsi v19 c128_i32
  let c0_i32_16 : BitVec 32 := 0#32
  let v34 : BitVec 1 := Scalar.cmpi .ne v33 c0_i32_16
  let v35 : BitVec 1 := Scalar.andi v32 v34
  let v21 : BitVec 32 := Scalar.divsi v19 c128_i32
  let c1_i32 : BitVec 32 := 1#32
  let v36 : BitVec 32 := Scalar.subi v21 c1_i32
  let v37 : BitVec 32 := Scalar.select v35 v36 v21
  let c128_i32_17 : BitVec 32 := 128#32
  let v38 : BitVec 32 := Scalar.muli v37 c128_i32_17
  let v39 : BitVec 32 := Scalar.select v20 c0_i32_18 v38
  let c0_i32_36 : BitVec 32 := 0#32
  let c124_i32 : BitVec 32 := 124#32
  let v40 : BitVec 1 := Scalar.cmpi .eq arg0 c124_i32
  let c9984_i32 : BitVec 32 := 9984#32
  let c0_i32_20 : BitVec 32 := 0#32
  let v42 : BitVec 1 := Scalar.cmpi .sgt v13 c0_i32_20
  let v43 : BitVec 32 := Scalar.extui v42
  let c0_i32_21 : BitVec 32 := 0#32
  let v44 : BitVec 1 := Scalar.cmpi .slt v13 c0_i32_21
  let v45 : BitVec 32 := Scalar.extui v44
  let v46 : BitVec 32 := Scalar.subi v43 v45
  let c128_i32_19 : BitVec 32 := 128#32
  let c0_i32_22 : BitVec 32 := 0#32
  let v47 : BitVec 1 := Scalar.cmpi .sgt c128_i32_19 c0_i32_22
  let v48 : BitVec 32 := Scalar.extui v47
  let c0_i32_23 : BitVec 32 := 0#32
  let v49 : BitVec 1 := Scalar.cmpi .slt c128_i32_19 c0_i32_23
  let v50 : BitVec 32 := Scalar.extui v49
  let v51 : BitVec 32 := Scalar.subi v48 v50
  let v52 : BitVec 1 := Scalar.cmpi .ne v46 v51
  let v53 : BitVec 32 := Scalar.remsi v13 c128_i32_19
  let c0_i32_24 : BitVec 32 := 0#32
  let v54 : BitVec 1 := Scalar.cmpi .ne v53 c0_i32_24
  let v55 : BitVec 1 := Scalar.andi v52 v54
  let v41 : BitVec 32 := Scalar.divsi v13 c128_i32_19
  let c1_i32_25 : BitVec 32 := 1#32
  let v56 : BitVec 32 := Scalar.subi v41 c1_i32_25
  let v57 : BitVec 32 := Scalar.select v55 v56 v41
  let c128_i32_26 : BitVec 32 := 128#32
  let v58 : BitVec 32 := Scalar.muli v57 c128_i32_26
  let v59 : BitVec 32 := Scalar.select v40 c9984_i32 v58
  let v60 : BitVec 32 := Scalar.subi v59 v39
  let c0_i32_28 : BitVec 32 := 0#32
  let v62 : BitVec 1 := Scalar.cmpi .sgt v60 c0_i32_28
  let v63 : BitVec 32 := Scalar.extui v62
  let c0_i32_29 : BitVec 32 := 0#32
  let v64 : BitVec 1 := Scalar.cmpi .slt v60 c0_i32_29
  let v65 : BitVec 32 := Scalar.extui v64
  let v66 : BitVec 32 := Scalar.subi v63 v65
  let c128_i32_27 : BitVec 32 := 128#32
  let c0_i32_30 : BitVec 32 := 0#32
  let v67 : BitVec 1 := Scalar.cmpi .sgt c128_i32_27 c0_i32_30
  let v68 : BitVec 32 := Scalar.extui v67
  let c0_i32_31 : BitVec 32 := 0#32
  let v69 : BitVec 1 := Scalar.cmpi .slt c128_i32_27 c0_i32_31
  let v70 : BitVec 32 := Scalar.extui v69
  let v71 : BitVec 32 := Scalar.subi v68 v70
  let v72 : BitVec 1 := Scalar.cmpi .ne v66 v71
  let v73 : BitVec 32 := Scalar.remsi v60 c128_i32_27
  let c0_i32_32 : BitVec 32 := 0#32
  let v74 : BitVec 1 := Scalar.cmpi .ne v73 c0_i32_32
  let v75 : BitVec 1 := Scalar.andi v72 v74
  let v61 : BitVec 32 := Scalar.divsi v60 c128_i32_27
  let c1_i32_33 : BitVec 32 := 1#32
  let v76 : BitVec 32 := Scalar.subi v61 c1_i32_33
  let v77 : BitVec 32 := Scalar.select v75 v76 v61
  let c1_i32_34 : BitVec 32 := 1#32
  let v78 : BitVec 32 := Scalar.addi v77 c1_i32_34
  let v79 : BitVec 32 := Scalar.subi v78 c0_i32_36
  let c1_i32_37 : BitVec 32 := 1#32
  let v81 : BitVec 32 := Scalar.divsi v79 c1_i32_37
  let v82 : BitVec 32 := Scalar.muli v81 c1_i32_37
  let v83 : BitVec 32 := Scalar.addi c0_i32_36 v82
  let c1_i32_39 : BitVec 32 := 1#32
  let arg6 : BitVec 32 := Scf.iv v83 c1_i32_39 k0_t2
  let c128_i32_40 : BitVec 32 := 128#32
  let v84 : BitVec 32 := Scalar.muli arg6 c128_i32_40
  let v85 : BitVec 32 := Scalar.addi v39 v84
  let v86 : BitVec 32 := v85
  let v100 : Index := Scalar.indexCast v86
  let c0_43 : Index := 0#32
  ![v100.toNat, 0]

def k0_chk1 (i : grid0.Coords) (v13 : BitVec 32) (v19 : BitVec 32) : Prop :=
  ((k0_t1_loop i v13 v19).OK) ∧
  (∀ k0_t1 : Fin (k0_t1_loop i v13 v19).trips, 128 ∣ (k0_mult1 i v13 v19 k0_t1).toNat) ∧
  (∀ k0_t1 : Fin (k0_t1_loop i v13 v19).trips, ∀ a, (k0_off1 i v13 v19 k0_t1) a + S128x256.size a ≤ S10240x256.size a) ∧
  ((k0_t2_loop i v13 v19).OK) ∧
  (∀ k0_t2 : Fin (k0_t2_loop i v13 v19).trips, 128 ∣ (k0_mult2 i v13 v19 k0_t2).toNat) ∧
  (∀ k0_t2 : Fin (k0_t2_loop i v13 v19).trips, ∀ a, (k0_off2 i v13 v19 k0_t2) a + S128x256.size a ≤ S10240x256.size a)
theorem k0_t1_ok : ∀ (i : grid0.Coords) (v13 : BitVec 32) (v19 : BitVec 32) (k0_hw1 : k0_chk1 i v13 v19), (k0_t1_loop i v13 v19).OK := fun i v13 v19 k0_hw1 => k0_hw1.1
theorem k0_mult1_dvd : ∀ (i : grid0.Coords) (v13 : BitVec 32) (v19 : BitVec 32) (k0_hw1 : k0_chk1 i v13 v19) (k0_t1 : Fin (k0_t1_loop i v13 v19).trips), 128 ∣ (k0_mult1 i v13 v19 k0_t1).toNat := fun i v13 v19 k0_hw1 k0_t1 => k0_hw1.2.1 k0_t1
theorem k0_off1_inb : ∀ (i : grid0.Coords) (v13 : BitVec 32) (v19 : BitVec 32) (k0_hw1 : k0_chk1 i v13 v19) (k0_t1 : Fin (k0_t1_loop i v13 v19).trips), ∀ a, (k0_off1 i v13 v19 k0_t1) a + S128x256.size a ≤ S10240x256.size a := fun i v13 v19 k0_hw1 k0_t1 => k0_hw1.2.2.1 k0_t1
theorem k0_t2_ok : ∀ (i : grid0.Coords) (v13 : BitVec 32) (v19 : BitVec 32) (k0_hw1 : k0_chk1 i v13 v19), (k0_t2_loop i v13 v19).OK := fun i v13 v19 k0_hw1 => k0_hw1.2.2.2.1
theorem k0_mult2_dvd : ∀ (i : grid0.Coords) (v13 : BitVec 32) (v19 : BitVec 32) (k0_hw1 : k0_chk1 i v13 v19) (k0_t2 : Fin (k0_t2_loop i v13 v19).trips), 128 ∣ (k0_mult2 i v13 v19 k0_t2).toNat := fun i v13 v19 k0_hw1 k0_t2 => k0_hw1.2.2.2.2.1 k0_t2
theorem k0_off2_inb : ∀ (i : grid0.Coords) (v13 : BitVec 32) (v19 : BitVec 32) (k0_hw1 : k0_chk1 i v13 v19) (k0_t2 : Fin (k0_t2_loop i v13 v19).trips), ∀ a, (k0_off2 i v13 v19 k0_t2) a + S128x256.size a ≤ S10240x256.size a := fun i v13 v19 k0_hw1 k0_t2 => k0_hw1.2.2.2.2.2 k0_t2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2560 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2560 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10240x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S320000x128 : Shape := ⟨2, ![320000, 128]⟩
abbrev S320000 : Shape := ⟨1, ![320000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S320000x256 : Shape := ⟨2, ![320000, 256]⟩
abbrev S1x256 : Shape := ⟨2, ![1, 256]⟩
abbrev S_ : Shape := ⟨0, ![]⟩
abbrev S1x128 : Shape := ⟨2, ![1, 128]⟩
abbrev S10000x128 : Shape := ⟨2, ![10000, 128]⟩
abbrev S320000x1 : Shape := ⟨2, ![320000, 1]⟩
abbrev S10000x256 : Shape := ⟨2, ![10000, 256]⟩

abbrev nBuf : Space → Nat
  | .hbm => 36
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S320000x256, .f32⟩
  | .hbm, ⟨11, _⟩ => ⟨S1x256, .f32⟩
  | .hbm, ⟨12, _⟩ => ⟨S320000x256, .f32⟩
  | .hbm, ⟨13, _⟩ => ⟨S320000x256, .f32⟩
  | .hbm, ⟨14, _⟩ => ⟨S_, .f32⟩
  | .hbm, ⟨15, _⟩ => ⟨S320000x256, .f32⟩
  | .hbm, ⟨16, _⟩ => ⟨S320000x256, .f32⟩
  | .hbm, ⟨17, _⟩ => ⟨S320000x128, .f32⟩
  | .hbm, ⟨18, _⟩ => ⟨S1x128, .f32⟩
  | .hbm, ⟨19, _⟩ => ⟨S320000x128, .f32⟩
  | .hbm, ⟨20, _⟩ => ⟨S320000x128, .f32⟩
  | .hbm, ⟨21, _⟩ => ⟨S_, .f32⟩
  | .hbm, ⟨22, _⟩ => ⟨S10000x128, .f32⟩
  | .hbm, ⟨23, _⟩ => ⟨S320000x1, .i32⟩
  | .hbm, ⟨24, _⟩ => ⟨S10000x128, .f32⟩
  | .hbm, ⟨25, _⟩ => ⟨S10000x256, .f32⟩
  | .hbm, ⟨26, _⟩ => ⟨S1x256, .f32⟩
  | .hbm, ⟨27, _⟩ => ⟨S10000x256, .f32⟩
  | .hbm, ⟨28, _⟩ => ⟨S10000x256, .f32⟩
  | .hbm, ⟨29, _⟩ => ⟨S_, .f32⟩
  | .hbm, ⟨30, _⟩ => ⟨S10000x256, .f32⟩
  | .hbm, ⟨31, _⟩ => ⟨S10000x256, .f32⟩
  | .hbm, ⟨32, _⟩ => ⟨S10000x128, .f32⟩
  | .hbm, ⟨33, _⟩ => ⟨S1x128, .f32⟩
  | .hbm, ⟨34, _⟩ => ⟨S10000x128, .f32⟩
  | .hbm, ⟨35, _⟩ => ⟨S10000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_cst : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Proof.KI.Launch.lean ====
/-
  The program's run as one weakest precondition. @main is host line, kernel 0, host line, kernel 1, host line; the output block
  of kernel 0 is not written everywhere, so what kernel 1 reads is known only once kernel 0 has ended. The regions are therefore run
  one after the other inside a single host segment, the second at proof data chosen from what the first left.
-/
module

public import proofs.«01_k».proof.Proof.Gen.KernelIdeal.Launch
public import proofs.«01_k».proof.Proof.Gen.KernelIdeal.Regions
public import Idealize.ShloMosaic.Lib.Pipeline.Kit
public import Idealize.ShloMosaic.Lib.Pipeline.Frame
public import Idealize.ShloMosaic.Lib.Pipeline.Regions
public import Idealize.ShloMosaic.Lib.Pipeline.RegionArrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F] [∀ e, Nonempty (Elt F e)]

/-- Two copies of the pipeline library's algebra: the launch theorem's own, and the one the regions are run with. -/
abbrev UU : Type := UR sig nD τ × UR sig nD τ

local notation "𝕄" => MT nD τ sig Unit (Elt F) ℕ UU ℕ

/-- The launch theorem's copy, -/
abbrev EP : Emb (UR sig nD τ) (MT nD τ sig Unit (Elt F) ℕ UU ℕ) := embL
/-- and the regions'. -/
abbrev EQ : Emb (UR sig nD τ) (MT nD τ sig Unit (Elt F) ℕ UU ℕ) := embR

/-- No pair of a cell and an index is given a level: no core owes anything. -/
abbrev L₀ : GSem nD τ sig → Finset Unit := fun _ => ∅
/-- The (unused) level of a pair. -/
abbrev lv₀ : GSem nD τ sig → Unit → ℕ := fun _ _ => 0

/-- The launch element of one copy. -/
abbrev e₀ : UR sig nD τ := initOf (Pipeline.cells cfgs cellOf_inj) (Pipeline.launchToks cfgs cellOf_inj)

/-- The ghost state of the pipelines in `S` on core `c`, in the regions' copy. -/
abbrev ghost (S : Finset (Fin 2)) (c : Dev nD) : sProp 𝕄 := Pipeline.ghostOn (pcfgs (F := F)) adm EQ S c

/-- The core owes nothing. -/
abbrev idle (c : Dev nD) : sProp 𝕄 := iprop(∃ W, owes (c : Thread nD τ) (0 : CellTallies nD τ sig Unit) W)

/-- @main's items. -/
abbrev items : Prog (TpuEff nD τ sig (Elt F) (Pipeline.Sig Λ₀ (Fin 2) fun p => (pcfgs (F := F) p).Adm) .tc) PUnit :=
  Pipeline.chain
  [ StableHlo.seq hostOps0,
    Prog.lift (.customCall (Pipeline.entry 0) ()),
    StableHlo.seq hostOps1,
    Prog.lift (.customCall (Pipeline.entry 1) ()),
    StableHlo.seq hostOps2 ]

/-- The proof data of a program run without regions of the launch theorem's: none is read. -/
abbrev noData (p : Fin 2) (c : Dev nD) : RDat τ (Elt F) Unit ℕ UU ℕ (Pipeline.pin (pcfgs (F := F)) adm p) c where
  A _ := Classical.arbitrary _
  after _ _ _ _ := True
  Φ _ := iprop(emp)
  q _ := fullShare
  owed _ := 0

-- the launch theorem's implicit arguments are found by unifying its conclusion with this one
set_option backward.isDefEq.respectTransparency.types false in
/-- THE LAUNCH: if on every core @main's items run, from the unscoped buffers at their launch contents and both pipelines' ghost
    state, to a thread state `Tₙ c`, and `Tₙ c` read against a final state says `QY c` of its memory, then every weakly fair execution
    from memory `m` with zero counters terminates, with `QY c` of the final memory on every core and every counter at zero. -/
theorem run_of_items (m : (ℓ : Loc nD τ sig) → Buf (Elt F) ℓ) (ρ : Dev nD → PrngReg) (𝒱₀ : Variants)
    (Tₙ : Dev nD → sProp 𝕄) (QY : Dev nD → MemSt nD τ sig (Elt F) → Prop)
    (hrun : ∀ (c : Dev nD) {β : Type} (k : PUnit → Prog (TpuEff nD τ sig (Elt F) (Pipeline.Sig Λ₀ (Fin 2) fun p => (pcfgs (F := F) p).Adm) .tc) β)
        (K : β → sProp 𝕄),
      iprop((iprop(boundary (c : Thread nD τ) ∗ Tₙ c ∗ idle c) -∗
            wp frame (wpE (defs (F := F)) (Variants.lift 𝒱₀) (c : Thread nD τ) none) Set.univ (k ⟨⟩) K)
          ∗ boundary (c : Thread nD τ) ∗ (StableHlo.held (c : Thread nD τ) (Pipeline.ucRefs τ sig) (V0 m c) ∗ idle c ∗ ghost Finset.univ c)
          ∗ levAts L₀ lv₀)
        ⊢ wp frame (wpE (defs (F := F)) (Variants.lift 𝒱₀) (c : Thread nD τ) none) Set.univ (items >>= k) K)
    (hfin : ∀ c (s' : Phys nD τ sig (Elt F)), iprop(Tₙ c ∗ SI s') ⊢ |={Set.univ}=> iprop(⌜QY c s'.mem⌝ ∗ SI s')) :
    θ_run defs (onTc (τ := τ) (main (F := F))) ⟨m, fun _ => 0, ρ⟩ (fun r => (∀ c : Dev nD, QY c r.2) ∧ r.2.sem = fun _ => 0) := by
  let H : HostSeg (Name := ℕ) (U := UU) (pcfgs (F := F)) defs₀ 𝒱₀ L₀ lv₀ :=
    { prog := items
      pre := fun c => iprop(StableHlo.held (c : Thread nD τ) (Pipeline.ucRefs τ sig) (V0 m c) ∗ idle c ∗ ghost Finset.univ c)
      post := fun c => iprop(Tₙ c ∗ idle c)
      run := fun c β k K => hrun c k K }
  refine Pipeline.RDat.θ_run_regions_kit_dev_sems (pcfgs (F := F)) adm noData () cellOf_inj EP defs₀ 𝒱₀ L₀ lv₀ m ρ main
    (fun _ => [.host H])
    (fun c Q => by
      rewrite [main_chain c, Pipeline.RDat.Seg.run_eq_chain]
      exact .rfl)
    (fun c => by simp only [Pipeline.RDat.Seg.pipes_host, Pipeline.RDat.Seg.pipes_nil]; decide)
    (O₀ := 0) (hL := fun _ _ => rfl) (G := fun c => ghost Finset.univ c) (u₀ := (e₀, e₀)) (hu₀ := ?_)
    (T₀ := H.pre) (Tₙ := Tₙ) (hch := fun c => ⟨.rfl, .rfl⟩)
    (hinit := ?_) (QY := QY) (hfin := hfin)
    (hQ := fun _ h hz => ⟨h, funext fun g => hz g (.inr (regions_no_unscoped g.2))⟩)
  · iintro Hu
    ihave H := (ownU_pair _ _) $$ Hu
    icases H with ⟨HP, HQ⟩
    imod (Pipeline.fund_ghost cfgs EQ cellOf_inj) $$ HQ with ⟨Hg, Ht⟩
    imodintro
    isplitl [HP]; · iexact HP
    iapply (show iprop((bigSep Finset.univ fun c : Dev nD => bigSep Finset.univ fun p => Pipeline.cellsGhost cfgs EQ p c)
          ∗ (bigSep Finset.univ fun c : Dev nD => bigSep Finset.univ fun p => (Pipeline.toksInit cfgs EQ p c : sProp 𝕄)))
        ⊢ bigSep Finset.univ fun c : Dev nD => ghost Finset.univ c from by
      refine (Entails.of_eq (bigSep_sep' _ _ _).symm).trans (bigSep_mono fun c _ => ?_)
      exact Entails.of_eq (bigSep_sep' _ _ _).symm)
    isplitl [Hg] <;> iassumption
  · refine Pipeline.initEach L₀ lv₀ fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UU) (Lvl := ℕ) c (V0 m c)]
    iintro ⟨⟨Hh, -, HO, -, -, HG⟩, -⟩
    imodintro
    isplitl [Hh]; · iexact Hh
    isplitl [HO]; · iexists ∅; iexact HO
    iexact HG

/-! ## One kernel region -/

/-- Buffer contents `V` with the array of window `o` of pipeline `p` at `G`. -/
abbrev withOut (p : Fin 2) (o : Fin (Pipeline.pin (pcfgs (F := F)) adm p).W) (V : Valuation τ sig (Elt F))
    (G : (Proc.devRef (τ := τ) .tc (Pipeline.arrRef (Pipeline.pin (pcfgs (F := F)) adm p).spec o)).ty.Contents (Elt F)) : Valuation τ sig (Elt F) :=
  Function.update V (Proc.devRef .tc (Pipeline.arrRef (Pipeline.pin (pcfgs (F := F)) adm p).spec o)) G

section Region

variable (rds : (p : Fin 2) → (c : Dev nD) → RDat τ (Elt F) Unit ℕ UU ℕ (Pipeline.pin (pcfgs (F := F)) adm p) c)
variable (𝒱₀ : Variants) (p : Fin 2) (o : Fin (Pipeline.pin (pcfgs (F := F)) adm p).W) (V : Valuation τ sig (Elt F))

/-- A KERNEL REGION WITH ONE OUTPUT WINDOW `o`, entered with the unscoped buffers at `V`: it ends with the output's array at some
    contents the proof data allow after the last point, every other unscoped buffer unchanged. -/
def region (kit : Pipeline.LaunchFacts₀ (nD := nD) (τ := τ) (Pipeline.pin (pcfgs (F := F)) adm) p)
    (hK : (pcfgs (F := F) p).pre.K = 0)
    (ho : ((Pipeline.pin (pcfgs (F := F)) adm p).spec o).isOut = true)
    (hout : ∀ w, w ≠ o → ((Pipeline.pin (pcfgs (F := F)) adm p).spec w).isOut = false)
    (hA : ∀ c w, (rds p c).A w = V (Proc.devRef .tc (Pipeline.arrRef (Pipeline.pin (pcfgs (F := F)) adm p).spec w)))
    (hΦ : ∀ c t, (rds p c).Φ t = Pipeline.scopedRest (Pipeline.pin (pcfgs (F := F)) adm p).spec c)
    (hq : ∀ c w, ((Pipeline.pin (pcfgs (F := F)) adm p).spec w).isOut = false → (rds p c).q w = Pipeline.shareOf (Pipeline.pin (pcfgs (F := F)) adm p).spec w)
    (howed : ∀ c t, (rds p c).owed t = 0)
    (hrec : ∀ c t, (rds p c).recorded t = Set.univ)
    (hbody : ∀ c, (rds p c).BodyObligation defs₀ 𝒱₀ () Set.univ) :
    Pipeline.RDat.RegionSeg (pcfgs (F := F)) adm rds () defs₀ 𝒱₀ L₀ lv₀ p where
  win := kit.win
  block_pos := kit.block_pos
  stage_whole := kit.stage_whole
  K := PEmpty
  osem := fun k => k.elim
  ho := Pipeline.OwnSemFacts.none _
  hbody := hbody
  hwaits := Pipeline.RDat.hwaits_of_owed_zero (pcfgs (F := F)) adm rds () L₀ lv₀ p howed
  pre := fun c => iprop(StableHlo.held (c : Thread nD τ) (Pipeline.ucRefs τ sig) V ∗ idle c)
  post := fun c => iprop(∃ G, ⌜(rds p c).ArrAt o (Pipeline.pin (pcfgs (F := F)) adm p).N G⌝
    ∗ StableHlo.held (c : Thread nD τ) (Pipeline.ucRefs τ sig) (withOut p o V G) ∗ idle c)
  X := fun _ => iprop(emp)
  Y := fun _ => iprop(emp)
  Z := fun c => Pipeline.unscopedRest (Ix := Unit) (Name := ℕ) (U := UU) (Lvl := ℕ) (Pipeline.pin (pcfgs (F := F)) adm p).spec c
    (fun b => V (Proc.devRef .tc b))
  hentry := fun c => by
    rw [Pipeline.ownSems0_none, Pipeline.prefHeld_of_none _ hK,
      show StableHlo.held (c : Thread nD τ) (Pipeline.ucRefs τ sig) V = unscopedBufs c (fun b => V (Proc.devRef .tc b))
        from (Pipeline.unscopedBufs_held (Ix := Unit) (Name := ℕ) (U := UU) (Lvl := ℕ) c V).symm,
      Pipeline.unscopedBufs_split₀ (Pipeline.pin (pcfgs (F := F)) adm) p kit.win.arr_unscoped c,
      (rds p c).arrBufs_eq_arrays kit.sharedIn kit.arr_whole (hq c) (fun b => V (Proc.devRef .tc b)) (rds p c).A (hA c)]
    iintro ⟨⟨⟨Ha, Hrest⟩, HO⟩, -, -⟩
    imodintro
    isplitl [Ha]; · iexact Ha
    isplitr; · iempintro
    isplitl [HO]
    · unfold Pipeline.RDat.owesAt Pipeline.owesWithin
      rw [howed c 0]
      icases HO with ⟨%W, HO⟩
      iexists W; isplitr
      · ipureintro; intro x hx; exact Or.inl (by rw [hrec c 0]; trivial)
      · iexact HO
    isplitr; · iempintro
    iexact Hrest
  hin := fun c => by
    rw [hΦ c]
    iintro ⟨-, -, Hr⟩; iexact Hr
  hout := fun c => by
    rw [hΦ c, Pipeline.ownSems0_none]
    iintro Hr
    isplitr; · iempintro
    isplitr; · iempintro
    iexact Hr
  hexit := fun c => by
    have hne : ∀ w, w ≠ o → Pipeline.arrRef (Pipeline.pin (pcfgs (F := F)) adm p).spec w ≠ Pipeline.arrRef (Pipeline.pin (pcfgs (F := F)) adm p).spec o := fun w hw e => by
      have h := kit.sharedIn o w (Ne.symm hw) e.symm
      rw [ho] at h; cases h
    have hopen : ((rds p c).arraysAt (Pipeline.pin (pcfgs (F := F)) adm p).N : sProp 𝕄)
        ⊢ iprop(∃ A, ⌜∀ w, (rds p c).ArrAt w (Pipeline.pin (pcfgs (F := F)) adm p).N (A w)⌝ ∗ (rds p c).arrays A) := by
      refine (bigSep_exists_pi Finset.univ _).trans ?_
      iintro ⟨%A, HA⟩
      ihave HA := (bigSep_pure_sep Finset.univ (fun w => (rds p c).ArrAt w (Pipeline.pin (pcfgs (F := F)) adm p).N (A w)) _) $$ HA
      icases HA with ⟨%hall, HA⟩
      iexists A
      isplitr; · ipureintro; exact fun w => hall w (Finset.mem_univ w)
      unfold Pipeline.RDat.arrays; iexact HA
    iintro ⟨Ha, HO, -, Hrest⟩
    ihave H := hopen $$ Ha
    icases H with ⟨%A, %hA', Ha⟩
    imodintro
    iexists (A o)
    isplitr; · ipureintro; exact hA' o
    isplitl [Ha Hrest]
    · rw [show StableHlo.held (c : Thread nD τ) (Pipeline.ucRefs τ sig) (withOut p o V (A o)) = unscopedBufs c (fun b => withOut p o V (A o) (Proc.devRef .tc b))
          from (Pipeline.unscopedBufs_held (Ix := Unit) (Name := ℕ) (U := UU) (Lvl := ℕ) c (withOut p o V (A o))).symm,
        Pipeline.unscopedBufs_split₀ (Pipeline.pin (pcfgs (F := F)) adm) p kit.win.arr_unscoped c,
        (rds p c).arrBufs_eq_arrays kit.sharedIn kit.arr_whole (hq c) (fun b => withOut p o V (A o) (Proc.devRef .tc b)) A (fun w => by
          by_cases hw : w = o
          · subst hw; unfold withOut; rw [Function.update_self]
          · have h := hA' w
            rw [(rds p c).ArrAt_in w (hout w hw)] at h
            exact (h.trans (hA c w)).trans (Function.update_of_ne (StableHlo.devRef_ne_of_ne (hne w hw)) _ _).symm)]
      isplitl [Ha]; · iexact Ha
      iapply (Entails.of_eq (show Pipeline.unscopedRest (Pipeline.pin (pcfgs (F := F)) adm p).spec c (fun b => V (Proc.devRef .tc b))
          = (Pipeline.unscopedRest (Pipeline.pin (pcfgs (F := F)) adm p).spec c (fun b => withOut p o V (A o) (Proc.devRef .tc b)) : sProp 𝕄) from by
        unfold Pipeline.unscopedRest
        exact bigSep_congr fun b hb => by
          beta_reduce
          rw [show withOut p o V (A o) (Proc.devRef .tc b) = V (Proc.devRef .tc b) from Function.update_of_ne (StableHlo.devRef_ne_of_ne fun e =>
            (Finset.mem_sdiff.mp hb).2 (Finset.mem_image.mpr ⟨o, Finset.mem_univ _, e.symm⟩)) _ _]))
      iexact Hrest
    unfold Pipeline.RDat.owesAt Pipeline.owesWithin
    rw [howed c (Fin.last _)]
    icases HO with ⟨%W, -, HO⟩; iexists W; iexact HO

end Region

end Cert.KernelIdeal.Hand

end
-- ==== Proof.KI.Run.lean ====
/-
  @main's run from its two kernels' proof data: the contents of the unscoped buffers after each of its five items, and the run
  theorem, whose conclusion gives every unscoped buffer at the end in terms of what each kernel's proof data allow its output array.
-/
module

public import proofs.«01_k».proof.Proof.KI.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F] [∀ e, Nonempty (Elt F e)]

local notation "𝕄" => MT nD τ sig Unit (Elt F) ℕ UU ℕ

/-- Contents of kernel 0's output array. -/
abbrev Arr0 (F : FTy → Type) : Type := (Proc.devRef (τ := τ) .tc main_v2).ty.Contents (Elt F)
/-- Contents of kernel 1's output array. -/
abbrev Arr1 (F : FTy → Type) : Type := (Proc.devRef (τ := τ) .tc main_v6).ty.Contents (Elt F)

section Contents

variable (m : (ℓ : Loc nD τ sig) → Buf (Elt F) ℓ) (c : Dev nD) (G : Arr0 F) (H : Arr1 F)

/-- The unscoped buffers after kernel 0, which leaves `G` in its output, -/
abbrev W2 : Valuation τ sig (Elt F) := Function.update (V1 m c) (Proc.devRef .tc main_v2) G
/-- after the second host line, -/
abbrev W3 : Valuation τ sig (Elt F) := StableHlo.after hostOps1 (W2 m c G)
/-- after kernel 1, which leaves `H` in its output, -/
abbrev W4 : Valuation τ sig (Elt F) := Function.update (W3 m c G) (Proc.devRef .tc main_v6) H
/-- and at the end. -/
abbrev W5 : Valuation τ sig (Elt F) := StableHlo.after hostOps2 (W4 m c G H)

/-- A buffer the first host line does not write keeps its launch contents before kernel 0; -/
theorem V1_keep (r : Ref sig .tc) (h : r ∉ hostOps0_W) : V1 m c r = m (c, Proc.devRef .tc r) := V1_of m c r h

/-- one written by neither that line, kernel 0 nor the second line keeps them before kernel 1; -/
theorem W3_keep (r : Ref sig .tc) (h : r ∉ hostOps0_W ++ main_v2 :: hostOps1_W) : W3 m c G r = m (c, Proc.devRef .tc r) := by
  simp only [List.mem_append, List.mem_cons, not_or] at h
  refine (StableHlo.after_of_writes_sub hostOps1 _ hostOps1_writes (by simpa using h.2.2)).trans ?_
  refine (Function.update_of_ne (StableHlo.devRef_ne_of_ne h.2.1) _ _).trans (V1_keep m c r (by simpa using h.1))

/-- and one written by no item keeps them to the end. -/
theorem W5_keep (r : Ref sig .tc) (h : r ∉ hostOps0_W ++ main_v2 :: hostOps1_W) (h' : r ∉ main_v6 :: hostOps2_W) :
    W5 m c G H r = m (c, Proc.devRef .tc r) := by
  simp only [List.mem_cons, not_or] at h'
  refine (StableHlo.after_of_writes_sub hostOps2 _ hostOps2_writes (by simpa using h'.2)).trans ?_
  exact (Function.update_of_ne (StableHlo.devRef_ne_of_ne h'.1) _ _).trans (W3_keep m c G r h)

end Contents

/-- What the proof data `rd` of pipeline `p`, entered with the unscoped buffers at `V`, owe the run. -/
structure RegionOK (𝒱₀ : Variants) (p : Fin 2) (V : Valuation τ sig (Elt F))
    (rd : (c : Dev nD) → RDat τ (Elt F) Unit ℕ UU ℕ (Pipeline.pin (pcfgs (F := F)) adm p) c) : Prop where
  /-- the arrays are entered at `V`, -/
  A : ∀ c w, (rd c).A w = V (Proc.devRef .tc (Pipeline.arrRef (Pipeline.pin (pcfgs (F := F)) adm p).spec w))
  /-- the invariant is the scoped buffers no window stages, -/
  Φ : ∀ c t, (rd c).Φ t = Pipeline.scopedRest (Pipeline.pin (pcfgs (F := F)) adm p).spec c
  /-- input windows on one array share it, -/
  q : ∀ c w, ((Pipeline.pin (pcfgs (F := F)) adm p).spec w).isOut = false → (rd c).q w = Pipeline.shareOf (Pipeline.pin (pcfgs (F := F)) adm p).spec w
  /-- the body owes nothing, -/
  owed : ∀ c t, (rd c).owed t = 0
  recorded : ∀ c t, (rd c).recorded t = Set.univ
  /-- and the body does at every point what the data say. -/
  body : ∀ c, (rd c).BodyObligation defs₀ 𝒱₀ () Set.univ

/-- A family of proof data with pipeline 0's and pipeline 1's given. -/
def fam (a : (c : Dev nD) → RDat τ (Elt F) Unit ℕ UU ℕ (Pipeline.pin (pcfgs (F := F)) adm 0) c)
    (b : (c : Dev nD) → RDat τ (Elt F) Unit ℕ UU ℕ (Pipeline.pin (pcfgs (F := F)) adm 1) c) :
    (p : Fin 2) → (c : Dev nD) → RDat τ (Elt F) Unit ℕ UU ℕ (Pipeline.pin (pcfgs (F := F)) adm p) c
  | ⟨0, _⟩ => a
  | ⟨1, _⟩ => b
  | ⟨_ + 2, h⟩ => absurd h (by omega)

/-- All of kernel 0's windows but the fifth are inputs, -/
theorem ins0 : ∀ w : Fin 5, w ≠ 4 → (spec0 w).isOut = false := by decide
/-- and kernel 1's likewise. -/
theorem ins1 : ∀ w : Fin 5, w ≠ 4 → (spec1 w).isOut = false := by decide

/-- Kernel 0 as a region: one output window, the fifth. -/
def region0 (𝒱₀ : Variants) (V : Valuation τ sig (Elt F))
    (rd : (c : Dev nD) → RDat τ (Elt F) Unit ℕ UU ℕ (Pipeline.pin (pcfgs (F := F)) adm 0) c) (h : RegionOK 𝒱₀ 0 V rd) :
    Pipeline.RDat.RegionSeg (pcfgs (F := F)) adm (fam rd (noData 1)) () defs₀ 𝒱₀ L₀ lv₀ 0 :=
  region (fam rd (noData 1)) 𝒱₀ 0 (4 : Fin 5) V launch₀0 rfl rfl ins0 h.A h.Φ h.q h.owed h.recorded h.body

/-- Kernel 1 as a region: one output window, the fifth. -/
def region1 (𝒱₀ : Variants) (V : Valuation τ sig (Elt F))
    (rd : (c : Dev nD) → RDat τ (Elt F) Unit ℕ UU ℕ (Pipeline.pin (pcfgs (F := F)) adm 1) c) (h : RegionOK 𝒱₀ 1 V rd) :
    Pipeline.RDat.RegionSeg (pcfgs (F := F)) adm (fam (noData 0) rd) () defs₀ 𝒱₀ L₀ lv₀ 1 :=
  region (fam (noData 0) rd) 𝒱₀ 1 (4 : Fin 5) V launch1.to₀ rfl rfl ins1 h.A h.Φ h.q h.owed h.recorded h.body

/-- Kernel 0's call: from the unscoped buffers at `V` it continues with its output at some contents the data allow. -/
theorem wp_region0 (𝒱₀ : Variants) (V : Valuation τ sig (Elt F))
    (rd : (c : Dev nD) → RDat τ (Elt F) Unit ℕ UU ℕ (Pipeline.pin (pcfgs (F := F)) adm 0) c) (h : RegionOK 𝒱₀ 0 V rd) (c : Dev nD)
    {β : Type} (k : PUnit → Prog (TpuEff nD τ sig (Elt F) (Pipeline.Sig Λ₀ (Fin 2) fun p => (pcfgs (F := F) p).Adm) .tc) β) (K : β → sProp 𝕄) :
    iprop((iprop(boundary (c : Thread nD τ) ∗ ∃ G : Arr0 F, ⌜(rd c).ArrAt (4 : Fin 5) grid0.N G⌝
          ∗ StableHlo.held (c : Thread nD τ) (Pipeline.ucRefs τ sig) (Function.update V (Proc.devRef .tc main_v2) G) ∗ idle c)
          -∗ wp frame (wpE (defs (F := F)) (Variants.lift 𝒱₀) (c : Thread nD τ) none) Set.univ (k ⟨⟩) K)
        ∗ boundary (c : Thread nD τ) ∗ (StableHlo.held (c : Thread nD τ) (Pipeline.ucRefs τ sig) V ∗ idle c) ∗ levAts L₀ lv₀
        ∗ Pipeline.cellsGhost (Pipeline.pin (pcfgs (F := F)) adm) EQ 0 c ∗ Pipeline.toksInit (Pipeline.pin (pcfgs (F := F)) adm) EQ 0 c)
      ⊢ wp frame (wpE (defs (F := F)) (Variants.lift 𝒱₀) (c : Thread nD τ) none) Set.univ (.op (.customCall (Pipeline.entry 0) ()) k) K :=
  Pipeline.RDat.RegionSeg.wp (pcfgs (F := F)) adm (fam rd (noData 1)) () cellOf_inj EQ defs₀ 𝒱₀ L₀ lv₀
    (region0 𝒱₀ V rd h) c none (fun u h => nomatch h) k K

/-- Kernel 1's call: from the unscoped buffers at `V` it continues with its output at some contents the data allow. -/
theorem wp_region1 (𝒱₀ : Variants) (V : Valuation τ sig (Elt F))
    (rd : (c : Dev nD) → RDat τ (Elt F) Unit ℕ UU ℕ (Pipeline.pin (pcfgs (F := F)) adm 1) c) (h : RegionOK 𝒱₀ 1 V rd) (c : Dev nD)
    {β : Type} (k : PUnit → Prog (TpuEff nD τ sig (Elt F) (Pipeline.Sig Λ₀ (Fin 2) fun p => (pcfgs (F := F) p).Adm) .tc) β) (K : β → sProp 𝕄) :
    iprop((iprop(boundary (c : Thread nD τ) ∗ ∃ G : Arr1 F, ⌜(rd c).ArrAt (4 : Fin 5) grid1.N G⌝
          ∗ StableHlo.held (c : Thread nD τ) (Pipeline.ucRefs τ sig) (Function.update V (Proc.devRef .tc main_v6) G) ∗ idle c)
          -∗ wp frame (wpE (defs (F := F)) (Variants.lift 𝒱₀) (c : Thread nD τ) none) Set.univ (k ⟨⟩) K)
        ∗ boundary (c : Thread nD τ) ∗ (StableHlo.held (c : Thread nD τ) (Pipeline.ucRefs τ sig) V ∗ idle c) ∗ levAts L₀ lv₀
        ∗ Pipeline.cellsGhost (Pipeline.pin (pcfgs (F := F)) adm) EQ 1 c ∗ Pipeline.toksInit (Pipeline.pin (pcfgs (F := F)) adm) EQ 1 c)
      ⊢ wp frame (wpE (defs (F := F)) (Variants.lift 𝒱₀) (c : Thread nD τ) none) Set.univ (.op (.customCall (Pipeline.entry 1) ()) k) K :=
  Pipeline.RDat.RegionSeg.wp (pcfgs (F := F)) adm (fam (noData 0) rd) () cellOf_inj EQ defs₀ 𝒱₀ L₀ lv₀
    (region1 𝒱₀ V rd h) c none (fun u h => nomatch h) k K

/-- @main's items continued by `k`, one after the other. -/
theorem items_bind {β : Type} (k : PUnit → Prog (TpuEff nD τ sig (Elt F) (Pipeline.Sig Λ₀ (Fin 2) fun p => (pcfgs (F := F) p).Adm) .tc) β) :
    items >>= k = StableHlo.seq hostOps0 >>= fun _ => .op (.customCall (Pipeline.entry 0) ()) fun _ =>
      StableHlo.seq hostOps1 >>= fun _ => .op (.customCall (Pipeline.entry 1) ()) fun _ => StableHlo.seq hostOps2 >>= k := by
  simp only [items, Pipeline.chain, Prog.bind_assoc, Prog.lift, Prog.bind_op, Prog.bind_ret]
  rfl

section Run

variable (m : (ℓ : Loc nD τ sig) → Buf (Elt F) ℓ) (ρ : Dev nD → PrngReg) (𝒱₀ : Variants)
variable (rd0 : Valuation τ sig (Elt F) → (c : Dev nD) → RDat τ (Elt F) Unit ℕ UU ℕ (Pipeline.pin (pcfgs (F := F)) adm 0) c)
variable (rd1 : Valuation τ sig (Elt F) → (c : Dev nD) → RDat τ (Elt F) Unit ℕ UU ℕ (Pipeline.pin (pcfgs (F := F)) adm 1) c)

/-- What the two kernels may leave on core `c`: `G` as kernel 0's data allow from the contents after the first host line, `H` as
    kernel 1's allow from the contents `G` leads to. -/
def Leaves (c : Dev nD) (G : Arr0 F) (H : Arr1 F) : Prop :=
  (rd0 (V1 m c) c).ArrAt (4 : Fin 5) grid0.N G ∧ (rd1 (W3 m c G) c).ArrAt (4 : Fin 5) grid1.N H

/-- THE RUN: from any memory with zero counters every weakly fair execution terminates with every counter at zero, each core's unscoped
    buffers at `W5` of contents its two kernels may leave. -/
theorem run (h0 : ∀ c, RegionOK 𝒱₀ 0 (V1 m c) (rd0 (V1 m c))) (h1 : ∀ c G, (rd0 (V1 m c) c).ArrAt (4 : Fin 5) grid0.N G → RegionOK 𝒱₀ 1 (W3 m c G) (rd1 (W3 m c G))) :
    θ_run defs (onTc (τ := τ) (main (F := F))) ⟨m, fun _ => 0, ρ⟩ (fun r =>
      (∀ c : Dev nD, ∃ G H, Leaves m rd0 rd1 c G H ∧ ∀ b ∈ Pipeline.ucRefs τ sig, r.2.mem (c, b) = W5 m c G H b)
        ∧ r.2.sem = fun _ => 0) := by
  refine run_of_items m ρ 𝒱₀
    (fun c => iprop(∃ G, ∃ H, ⌜Leaves m rd0 rd1 c G H⌝ ∗ StableHlo.held (c : Thread nD τ) (Pipeline.ucRefs τ sig) (W5 m c G H)))
    (fun c s => ∃ G H, Leaves m rd0 rd1 c G H ∧ ∀ b ∈ Pipeline.ucRefs τ sig, s.mem (c, b) = W5 m c G H b) ?_ ?_
  · intro c β k K
    rw [items_bind]
    iintro ⟨Hk, Hbd, ⟨Hh, HO, HG⟩, #Hla⟩
    ihave HG := (Entails.of_eq (Pipeline.PerCore.ghostOn_erase (pcfgs (F := F)) (fun _ => adm) EQ (S := Finset.univ) (p := (0 : Fin 2)) (Finset.mem_univ _) c)) $$ HG
    icases HG with ⟨⟨Hg0, Ht0⟩, HG⟩
    ihave HG := (Entails.of_eq (Pipeline.PerCore.ghostOn_erase (pcfgs (F := F)) (fun _ => adm) EQ (S := Finset.univ.erase 0) (p := (1 : Fin 2)) (by decide) c)) $$ HG
    icases HG with ⟨⟨Hg1, Ht1⟩, -⟩
    iapply (StableHlo.wp_seq (defs := defs (F := F)) (Variants.lift 𝒱₀) none Set.univ c (Pipeline.ucRefs τ sig) _ (K := K) hostOps0
      (fun op h => Pipeline.sub_ucRefs op ((List.forall_iff_forall_mem.mp hostOps0_sub) op h))
      (fun op h => (List.forall_iff_forall_mem.mp hostOps0_fresh) op h) (V0 m c)) $$ [Hbd Hh]
    · isplitl [Hbd] <;> iassumption
    iintro ⟨Hbd, Hh⟩
    iapply (wp_region0 𝒱₀ (V1 m c) (rd0 (V1 m c)) (h0 c) c _ K) $$ [-]
    isplitr [Hbd Hh HO Hg0 Ht0]
    · iintro ⟨Hbd, %G, %hG, Hh, HO⟩
      iapply (StableHlo.wp_seq (defs := defs (F := F)) (Variants.lift 𝒱₀) none Set.univ c (Pipeline.ucRefs τ sig) _ (K := K) hostOps1
        (fun op h => Pipeline.sub_ucRefs op ((List.forall_iff_forall_mem.mp hostOps1_sub) op h))
        (fun op h => (List.forall_iff_forall_mem.mp hostOps1_fresh) op h) (W2 m c G)) $$ [Hbd Hh]
      · isplitl [Hbd] <;> iassumption
      iintro ⟨Hbd, Hh⟩
      iapply (wp_region1 𝒱₀ (W3 m c G) (rd1 (W3 m c G)) (h1 c G hG) c _ K) $$ [-]
      isplitr [Hbd Hh HO Hg1 Ht1]
      · iintro ⟨Hbd, %H, %hH, Hh, HO⟩
        iapply (StableHlo.wp_seq (defs := defs (F := F)) (Variants.lift 𝒱₀) none Set.univ c (Pipeline.ucRefs τ sig) _ (K := K) hostOps2
          (fun op h => Pipeline.sub_ucRefs op ((List.forall_iff_forall_mem.mp hostOps2_sub) op h))
          (fun op h => (List.forall_iff_forall_mem.mp hostOps2_fresh) op h) (W4 m c G H)) $$ [Hbd Hh]
        · isplitl [Hbd] <;> iassumption
        iintro ⟨Hbd, Hh⟩
        iapply Hk
        isplitl [Hbd]; · iexact Hbd
        isplitl [Hh]
        · iexists G; iexists H
          isplitr; · ipureintro; exact ⟨hG, hH⟩
          iexact Hh
        iexact HO
      · isplitl [Hbd]; · iexact Hbd
        isplitl [Hh HO]
        · isplitl [Hh] <;> iassumption
        isplitr; · iexact Hla
        isplitl [Hg1] <;> iassumption
    · isplitl [Hbd]; · iexact Hbd
      isplitl [Hh HO]
      · isplitl [Hh] <;> iassumption
      isplitr; · iexact Hla
      isplitl [Hg0] <;> iassumption
  · intro c s'
    unfold StableHlo.held
    iintro ⟨⟨%G, %H, %hGH, Hh⟩, HSI⟩
    ihave Hr := (pointsTo_read_all (Pipeline.ucRefs τ sig) (fun b => ((c : Thread nD τ).1, b)) (W5 m c G H) s') $$ [Hh HSI]
    · isplitl [Hh] <;> iassumption
    icases Hr with ⟨%h, HSI⟩
    imodintro
    isplitr
    · ipureintro; exact ⟨G, H, hGH, h⟩
    iexact HSI

end Run

end Cert.KernelIdeal.Hand

end
-- ==== Proof.Floor.lean ====
module

public import Idealize.ShloMosaic.PureOps
public import Idealize.ShloMosaic.PureOps.Reduce
public import Idealize.ShloMosaic.Lib.Scf

/-!
# Windows of 128 segments, in words

The division by 128 the kernel makes with words, and the loops over the windows from a first to a
last one, decided for segment numbers below 10000 and windows below 79.
-/
@[expose] public section

set_option maxRecDepth 16384

noncomputable section

namespace Cert.Hand

open Idealize.ShloMosaic

/-- A word divided by 128 rounding down, as the kernel does it. -/
@[reducible] def fdiv (v : BitVec 32) : BitVec 32 :=
  Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt 128#32 0#32)) (Scalar.extui (Scalar.cmpi .slt 128#32 0#32))))
      (Scalar.cmpi .ne (Scalar.remsi v 128#32) 0#32))
    (Scalar.subi (Scalar.divsi v 128#32) 1#32) (Scalar.divsi v 128#32)

/-- The number of the first window at grid point `p`, the largest segment of the previous block
    being `n`. -/
def firstWin (p n : ℕ) : ℕ := if p = 0 then 0 else n / 128

/-- The number of the last window at grid point `p`, the largest segment of its block being `n`. -/
def lastWin (p n : ℕ) : ℕ := if p = 124 then 78 else n / 128

theorem firstWin_le {p n : ℕ} (h : n < 10000) : firstWin p n ≤ 78 := by
  unfold firstWin; split <;> omega

theorem lastWin_le {p n : ℕ} (h : n < 10000) : lastWin p n ≤ 78 := by
  unfold lastWin; split <;> omega

theorem muli_ofNat (a b : ℕ) : Scalar.muli (BitVec.ofNat 32 a) (BitVec.ofNat 32 b) = BitVec.ofNat 32 (a * b) :=
  (BitVec.ofNat_mul ..).symm

theorem addi_ofNat (a b : ℕ) : Scalar.addi (BitVec.ofNat 32 a) (BitVec.ofNat 32 b) = BitVec.ofNat 32 (a + b) :=
  (BitVec.ofNat_add ..).symm

/-- The kernel's division on a word below 10000 is the natural one. -/
theorem fdiv_of_lt {v : BitVec 32} (h : v.toNat < 10000) : fdiv v = BitVec.ofNat 32 (v.toNat / 128) := by
  have hm : v.msb = false := by rw [BitVec.msb_eq_false_iff_two_mul_lt]; omega
  have hd : Scalar.divsi v 128#32 = BitVec.ofNat 32 (v.toNat / 128) := by
    unfold Scalar.divsi IntOp.divsi
    rw [if_neg (by unfold IntOp.SDivCorner; exact fun h' => h'.elim (by decide) (fun h'' => absurd h''.2 (by decide)))]
    rw [BitVec.sdiv_eq, hm]
    apply BitVec.eq_of_toNat_eq
    show (v / 128#32).toNat = _
    rw [BitVec.toNat_udiv, BitVec.toNat_ofNat, BitVec.toNat_ofNat, show 128 % 2 ^ 32 = 128 from rfl]
    omega
  by_cases h0 : v = 0#32
  · subst h0; decide
  · have hpos : 0 < v.toNat := by
      rcases Nat.eq_zero_or_pos v.toNat with e | e
      · exact absurd (BitVec.eq_of_toNat_eq e) h0
      · exact e
    have h1 : Scalar.cmpi .sgt v 0#32 = 1#1 := by
      show BitVec.ofBool ((0#32).slt v) = 1#1
      rw [BitVec.slt_eq_decide, BitVec.toInt_eq_toNat_of_msb hm]
      rw [decide_eq_true (by simpa using hpos)]; rfl
    have h2 : Scalar.cmpi .slt v 0#32 = 0#1 := by
      show BitVec.ofBool (v.slt 0#32) = 0#1
      rw [BitVec.slt_eq_decide, BitVec.toInt_eq_toNat_of_msb hm]
      rw [decide_eq_false (by simp)]; rfl
    unfold fdiv
    rw [h1, h2, hd]
    rw [show Scalar.cmpi .ne (Scalar.subi (Scalar.extui 1#1) (Scalar.extui 0#1))
        (Scalar.subi (Scalar.extui (Scalar.cmpi .sgt 128#32 0#32)) (Scalar.extui (Scalar.cmpi .slt 128#32 0#32))) = 0#1 from by decide]
    rw [show ∀ y : BitVec 1, Scalar.andi 0#1 y = 0#1 from by decide]
    rfl

theorem eqz_fin : ∀ p : Fin 125, (Scalar.cmpi .eq (BitVec.ofNat 32 p.val) 0#32 = 1) ↔ (p.val = 0) := by
  decide +kernel

theorem eql_fin : ∀ p : Fin 125, (Scalar.cmpi .eq (BitVec.ofNat 32 p.val) 124#32 = 1) ↔ (p.val = 124) := by
  decide +kernel

/-- The loop over the windows of a point whose number of windows is the word `n`, -/
@[reducible] def winLoop (n : BitVec 32) : Scf.Loop 32 :=
  ⟨0#32, Scalar.addi 0#32 (Scalar.muli (Scalar.divsi (Scalar.subi n 0#32) 1#32) 1#32), 1#32⟩

/-- and the loop over what the unrolling leaves. -/
@[reducible] def restLoop (n : BitVec 32) : Scf.Loop 32 :=
  ⟨Scalar.addi 0#32 (Scalar.muli (Scalar.divsi (Scalar.subi n 0#32) 1#32) 1#32), Scalar.addi 0#32 (Scalar.subi n 0#32), 1#32⟩

/-- The two loops for a last window `e` and a first window `s`, `d = e + 78 − s`: both have a meaning,
    the first runs `e + 1 − s` times and the second not at all. -/
theorem loops_fin : ∀ d : Fin 157,
    let n := Scalar.addi (fdiv (Scalar.subi (BitVec.ofNat 32 (d.val * 128)) 9984#32)) 1#32
    (winLoop n).OK ∧ (winLoop n).trips = d.val - 77 ∧ (restLoop n).OK ∧ (restLoop n).trips = 0 := by
  decide +kernel

/-- The distance between two windows depends on their difference alone. -/
theorem subi_windows {e s : ℕ} (he : e ≤ 78) (hs : s ≤ 78) :
    Scalar.subi (BitVec.ofNat 32 (e * 128)) (BitVec.ofNat 32 (s * 128))
      = Scalar.subi (BitVec.ofNat 32 ((e + 78 - s) * 128)) 9984#32 := by
  apply BitVec.eq_of_toNat_eq
  show (BitVec.ofNat 32 (e * 128) - BitVec.ofNat 32 (s * 128)).toNat = (BitVec.ofNat 32 ((e + 78 - s) * 128) - 9984#32).toNat
  rw [BitVec.toNat_sub, BitVec.toNat_sub]
  simp only [BitVec.toNat_ofNat]
  omega

/-- The signed maximum of two words below 10000 is their larger one. -/
theorem maxsi_of_lt {x y : BitVec 32} (hx : x.toNat < 10000) (hy : y.toNat < 10000) :
    IntOp.maxsi x y = if y.toNat < x.toNat then x else y := by
  have mx : x.msb = false := by rw [BitVec.msb_eq_false_iff_two_mul_lt]; omega
  have my : y.msb = false := by rw [BitVec.msb_eq_false_iff_two_mul_lt]; omega
  unfold IntOp.maxsi
  rw [BitVec.slt_eq_decide, BitVec.toInt_eq_toNat_of_msb mx, BitVec.toInt_eq_toNat_of_msb my]
  by_cases h : y.toNat < x.toNat
  · rw [if_pos h, if_pos (decide_eq_true (by exact_mod_cast h))]
  · rw [if_neg h, decide_eq_false (by exact_mod_cast h), if_neg (by decide)]

/-- The signed maximum of a word below 10000 and the least word is the former. -/
theorem maxsi_least {x : BitVec 32} (hx : x.toNat < 10000) : IntOp.maxsi x 2147483648#32 = x := by
  have mx : x.msb = false := by rw [BitVec.msb_eq_false_iff_two_mul_lt]; omega
  unfold IntOp.maxsi
  rw [BitVec.slt_eq_decide, BitVec.toInt_eq_toNat_of_msb mx]
  refine if_pos (decide_eq_true ?_)
  show (2147483648#32 : BitVec 32).toInt < _
  rw [show (2147483648#32 : BitVec 32).toInt = -2147483648 from by decide]
  omega

/-- A fold of the signed maximum over words below 10000, from the least word: one of them, no one larger. -/
theorem maxsi_fold {ι : Type} [DecidableEq ι] (f : ι → BitVec 32) (S : Finset ι) (h : ∀ x ∈ S, (f x).toNat < 10000) :
    (S = ∅ ∧ S.fold IntOp.maxsi 2147483648#32 f = 2147483648#32) ∨
      ((∃ x ∈ S, S.fold IntOp.maxsi 2147483648#32 f = f x) ∧ ∀ y ∈ S, (f y).toNat ≤ (S.fold IntOp.maxsi 2147483648#32 f).toNat) := by
  induction S using Finset.induction_on with
  | empty => exact Or.inl ⟨rfl, rfl⟩
  | insert a S ha ih =>
    right
    rw [Finset.fold_insert ha]
    have hfa := h a (Finset.mem_insert_self a S)
    rcases ih fun x hx => h x (Finset.mem_insert_of_mem hx) with ⟨e, he⟩ | ⟨⟨x, hx, ex⟩, hle⟩
    · subst e
      rw [he, maxsi_least hfa]
      refine ⟨⟨a, Finset.mem_insert_self a _, rfl⟩, fun y hy => ?_⟩
      rcases Finset.mem_insert.mp hy with rfl | hy
      · exact le_rfl
      · exact absurd hy (Finset.notMem_empty y)
    · have hfx := h x (Finset.mem_insert_of_mem hx)
      rw [ex] at hle ⊢
      rw [maxsi_of_lt hfa hfx]
      by_cases hlt : (f x).toNat < (f a).toNat
      · rw [if_pos hlt]
        refine ⟨⟨a, Finset.mem_insert_self a _, rfl⟩, fun y hy => ?_⟩
        rcases Finset.mem_insert.mp hy with rfl | hy
        · exact le_rfl
        · exact (hle y hy).trans hlt.le
      · rw [if_neg hlt]
        refine ⟨⟨x, Finset.mem_insert_of_mem hx, rfl⟩, fun y hy => ?_⟩
        rcases Finset.mem_insert.mp hy with rfl | hy
        · omega
        · exact hle y hy

end Cert.Hand

end
-- ==== Proof.KI.Words.lean ====
module

public import proofs.«01_k».proof.Proof.Gen.KernelIdeal.Loops
public import proofs.«01_k».proof.Proof.Floor

/-!
# The window arithmetic of the segment sum

A grid point of the first kernel adds its block of rows into the accumulator window by window, a
window being 128 consecutive segments. The first window is the one holding the largest segment
number of the previous block (window 0 at the first point), the last the one holding the largest
of its own block (window 78 at the last point). Here the words the kernel computes for these are
read as natural numbers, for segment numbers below 10000: the loop over windows runs
`last + 1 − first` times (not at all when `last < first`), trip `k` works on the rows from
`128·(first + k)` on, and the remainder loop never runs. So the conditions the kernel assumes of
the two maxima hold.
-/

@[expose] public section

set_option maxRecDepth 16384

noncomputable section

namespace Cert.KernelIdeal.Hand

open Cert.KernelIdeal Cert.KernelIdeal.Gen Cert.Hand
open Idealize.ShloMosaic

/-- The first row of the first window, as the kernel computes it. -/
@[reducible] def startW (i : grid0.Coords) (v19 : BitVec 32) : BitVec 32 :=
  Scalar.select (Scalar.cmpi .eq (BitVec.ofNat 32 (i 0).val) 0#32) 0#32 (Scalar.muli (fdiv v19) 128#32)

/-- The first row of the last window, as the kernel computes it. -/
@[reducible] def endW (i : grid0.Coords) (v13 : BitVec 32) : BitVec 32 :=
  Scalar.select (Scalar.cmpi .eq (BitVec.ofNat 32 (i 0).val) 124#32) 9984#32 (Scalar.muli (fdiv v13) 128#32)

/-- The number of windows, as the kernel computes it. -/
@[reducible] def nwinW (i : grid0.Coords) (v13 v19 : BitVec 32) : BitVec 32 :=
  Scalar.addi (fdiv (Scalar.subi (endW i v13) (startW i v19))) 1#32

/-- The first row of the first window is 128 times the window's number. -/
theorem startW_eq (i : grid0.Coords) {v : BitVec 32} (h : v.toNat < 10000) :
    startW i v = BitVec.ofNat 32 (firstWin (i 0).val v.toNat * 128) := by
  have e := eqz_fin (i 0)
  unfold startW Scalar.select firstWin
  rw [fdiv_of_lt h, muli_ofNat]
  by_cases hp : (i 0).val = 0
  · rw [if_pos (e.mpr hp), if_pos hp]
  · rw [if_neg (fun h' => hp (e.mp h')), if_neg hp]

/-- The first row of the last window is 128 times the window's number. -/
theorem endW_eq (i : grid0.Coords) {v : BitVec 32} (h : v.toNat < 10000) :
    endW i v = BitVec.ofNat 32 (lastWin (i 0).val v.toNat * 128) := by
  have e := eql_fin (i 0)
  unfold endW Scalar.select lastWin
  rw [fdiv_of_lt h, muli_ofNat]
  by_cases hp : (i 0).val = 124
  · rw [if_pos (e.mpr hp), if_pos hp]
  · rw [if_neg (fun h' => hp (e.mp h')), if_neg hp]

theorem t1_loop_eq (i : grid0.Coords) (v13 v19 : BitVec 32) : k0_t1_loop i v13 v19 = winLoop (nwinW i v13 v19) := rfl

theorem t2_loop_eq (i : grid0.Coords) (v13 v19 : BitVec 32) : k0_t2_loop i v13 v19 = restLoop (nwinW i v13 v19) := rfl

/-- The loops of a grid point, the two maxima being below 10000. -/
theorem loops_eq (i : grid0.Coords) {v13 v19 : BitVec 32} (h13 : v13.toNat < 10000) (h19 : v19.toNat < 10000) :
    (k0_t1_loop i v13 v19).OK ∧
    (k0_t1_loop i v13 v19).trips = lastWin (i 0).val v13.toNat + 1 - firstWin (i 0).val v19.toNat ∧
    (k0_t2_loop i v13 v19).OK ∧ (k0_t2_loop i v13 v19).trips = 0 := by
  have he := lastWin_le (p := (i 0).val) h13
  have hs := firstWin_le (p := (i 0).val) h19
  obtain ⟨ok1, t1, ok2, t2⟩ := loops_fin ⟨lastWin (i 0).val v13.toNat + 78 - firstWin (i 0).val v19.toNat, by omega⟩
  rw [t1_loop_eq, t2_loop_eq]
  unfold nwinW
  rw [endW_eq i h13, startW_eq i h19, subi_windows he hs]
  exact ⟨ok1, t1.trans (by dsimp only; omega), ok2, t2⟩

/-- The first row of trip `k`'s window, -/
theorem mult1_eq (i : grid0.Coords) {v13 v19 : BitVec 32} (h19 : v19.toNat < 10000) (k : Fin (k0_t1_loop i v13 v19).trips) :
    k0_mult1 i v13 v19 k = BitVec.ofNat 32 ((firstWin (i 0).val v19.toNat + k.val) * 128) := by
  show Scalar.addi (startW i v19) (Scalar.muli (Scf.iv 0#32 1#32 k.val) 128#32) = _
  rw [startW_eq i h19, show Scf.iv 0#32 1#32 k.val = BitVec.ofNat 32 k.val from by
    unfold Scf.iv; rw [BitVec.mul_one, BitVec.zero_add], show (128#32) = BitVec.ofNat 32 128 from rfl,
    muli_ofNat, addi_ofNat, Nat.add_mul]

/-- which is a row of the accumulator followed by 127 more, -/
theorem window_le (i : grid0.Coords) {v13 v19 : BitVec 32} (h13 : v13.toNat < 10000) (h19 : v19.toNat < 10000)
    (k : Fin (k0_t1_loop i v13 v19).trips) : firstWin (i 0).val v19.toNat + k.val ≤ lastWin (i 0).val v13.toNat := by
  have hk := k.isLt
  have ht := (loops_eq i h13 h19).2.1
  omega

/-- as a natural number, -/
theorem mult1_toNat (i : grid0.Coords) {v13 v19 : BitVec 32} (h13 : v13.toNat < 10000) (h19 : v19.toNat < 10000)
    (k : Fin (k0_t1_loop i v13 v19).trips) :
    (k0_mult1 i v13 v19 k).toNat = (firstWin (i 0).val v19.toNat + k.val) * 128 := by
  have h1 := window_le i h13 h19 k
  have h2 := lastWin_le (p := (i 0).val) h13
  rw [mult1_eq i h19, BitVec.toNat_ofNat]
  exact Nat.mod_eq_of_lt (by omega)

/-- and as the offset of the kernel's accesses. -/
theorem off1_eq (i : grid0.Coords) {v13 v19 : BitVec 32} (h13 : v13.toNat < 10000) (h19 : v19.toNat < 10000)
    (k : Fin (k0_t1_loop i v13 v19).trips) :
    k0_off1 i v13 v19 k = ![(firstWin (i 0).val v19.toNat + k.val) * 128, 0] := by
  show ![(k0_mult1 i v13 v19 k).toNat, 0] = _
  rw [mult1_toNat i h13 h19]

/-- What the kernel assumes of the two maxima holds when they are below 10000. -/
theorem chk1_of_lt (i : grid0.Coords) {v13 v19 : BitVec 32} (h13 : v13.toNat < 10000) (h19 : v19.toNat < 10000) :
    k0_chk1 i v13 v19 := by
  obtain ⟨ok1, -, ok2, t2⟩ := loops_eq i h13 h19
  refine ⟨ok1, fun k => ?_, fun k a => ?_, ok2, fun k => ?_, fun k => ?_⟩
  · rw [mult1_toNat i h13 h19]; exact Nat.dvd_mul_left ..
  · rw [off1_eq i h13 h19]
    have h1 := window_le i h13 h19 k
    have h2 := lastWin_le (p := (i 0).val) h13
    fin_cases a
    · show _ * 128 + 128 ≤ 10240; omega
    · show 0 + 256 ≤ 256; omega
  · exact absurd k.isLt (by omega)
  · exact absurd k.isLt (by omega)

end Cert.KernelIdeal.Hand

end
-- ==== Proof.KI.Body0.lean ====
/-
  Kernel 0 (the pointnet on 2560 rows and the sum of its rows by segment): what one grid point does to the accumulator, and the body's run.
-/
module

public import proofs.«01_k».proof.Proof.KI.Run
public import proofs.«01_k».proof.Proof.KI.Words
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F] [∀ e, Nonempty (Elt F e)]

local notation "𝕄" => MT nD τ sig Unit (Elt F) ℕ UU ℕ

/-- The largest segment number of a block, as the kernel computes it. -/
def maxW (v : Vec F S1x1x2560 .i32) : BitVec 32 := extractAt ![0, 0] (k0_pay5 v) inpos_S1x1_p0_0

/-- The largest segment number of the previous block, as the kernel computes it. -/
def maxP (v : Vec F S1x1x2560 .i32) : BitVec 32 := extractAt ![0, 0] (k0_pay6 v) inpos_S1x1_p0_0

/-- One trip over a window: the accumulator `X` with the window's 128 rows replaced by what the trip stores there. -/
def trip0 (i : grid0.Coords) (arg0 : BitVec 32) (v7 : FVec F S2560x256 .bf16) (v9 : IVec S2560 32) (v13 v19 : BitVec 32)
    (hw : k0_chk1 i v13 v19) (v39 : BitVec 32) (k : Fin (k0_t1_loop i v13 v19).trips) (X : Vec F S10240x256 .f32) : Vec F S10240x256 .f32 :=
  VecWindow.put X (k0_off1 i v13 v19 k) S128x256.size
    (k0_pay1 i arg0 v7 v9 v13 v19 v39 k (VecWindow.window X (k0_off1 i v13 v19 k) S128x256.size (k0_off1_inb i v13 v19 hw k)))

/-- The accumulator after the first `n` trips, from `X`. -/
def trips0 (i : grid0.Coords) (arg0 : BitVec 32) (v7 : FVec F S2560x256 .bf16) (v9 : IVec S2560 32) (v13 v19 : BitVec 32)
    (hw : k0_chk1 i v13 v19) (v39 : BitVec 32) (X : Vec F S10240x256 .f32) : ℕ → Vec F S10240x256 .f32
  | 0 => X
  | n + 1 => if h : n < (k0_t1_loop i v13 v19).trips then trip0 i arg0 v7 v9 v13 v19 hw v39 ⟨n, h⟩ (trips0 i arg0 v7 v9 v13 v19 hw v39 X n)
    else trips0 i arg0 v7 v9 v13 v19 hw v39 X n

theorem trips0_succ (i : grid0.Coords) (arg0 : BitVec 32) (v7 : FVec F S2560x256 .bf16) (v9 : IVec S2560 32) (v13 v19 : BitVec 32)
    (hw : k0_chk1 i v13 v19) (v39 : BitVec 32) (X : Vec F S10240x256 .f32) (k : Fin (k0_t1_loop i v13 v19).trips) :
    trips0 i arg0 v7 v9 v13 v19 hw v39 X (k.val + 1) = trip0 i arg0 v7 v9 v13 v19 hw v39 k (trips0 i arg0 v7 v9 v13 v19 hw v39 X k.val) := by
  rw [trips0]; exact dif_pos k.isLt

/-- What a grid point makes of the accumulator `Y`: all its trips, on the network of its rows `X0`, its segment numbers `X1` and the
    previous block's `X2`, the weights being `X3`. -/
def step0 (i : grid0.Coords) (X0 : Vec F S2560x128 .f32) (X1 X2 : Vec F S1x1x2560 .i32) (X3 : Vec F S128x256 .bf16)
    (hw : k0_chk1 i (maxW X1) (maxP X2)) (Y : Vec F S10240x256 .f32) : Vec F S10240x256 .f32 :=
  trips0 i (BitVec.ofNat 32 (i 0).val) (k0_pay3 X0 X3) (k0_pay4 X1) (maxW X1) (maxP X2) hw (startW i (maxP X2)) Y
    (k0_t1_loop i (maxW X1) (maxP X2)).trips

section Loop

variable (𝒱 : Variants) (c : Dev nD) (bd : Option 𝒱.V) (E : Set ℕ) (i : grid0.Coords)
  (arg1 : Memref sig .tc .vmem S2560x128 .f32) (harg1 : arg1.IsWhole) (arg2 : Memref sig .tc .vmem S1x1x2560 .i32) (harg2 : arg2.IsWhole)
  (arg3 : Memref sig .tc .vmem S1x1x2560 .i32) (harg3 : arg3.IsWhole) (arg4 : Memref sig .tc .vmem S128x256 .bf16) (harg4 : arg4.IsWhole)
  (arg5 : Memref sig .tc .vmem S10240x256 .f32) (harg5 : arg5.IsWhole)
  (arg0 : BitVec 32) (v7 : FVec F S2560x256 .bf16) (v9 : IVec S2560 32) (v13 v19 : BitVec 32) (hw : k0_chk1 i v13 v19) (v39 : BitVec 32)

/-- One trip's run: the accumulator held at contents showing `X` comes back showing `trip0` of it. -/
theorem trip_run (k : Fin (k0_t1_loop i v13 v19).trips) (f : BufTy.Contents (Elt F) arg5.view.ty) :
    iprop(arg5.view.loc (c : Thread nD τ) ↦[arg5.view.set]{fullShare} f)
      ⊢@{sProp 𝕄} wp frame (wpE (defs₀ (F := F)) 𝒱 (c : Thread nD τ) bd) E
          (k0_t1_body (F := F) i arg1 harg1 arg2 harg2 arg3 harg3 arg4 harg4 arg5 harg5 arg0 v7 v9 v13 v19 hw v39 k PUnit.unit)
          (fun _ => iprop(∃ f', (arg5.view.loc (c : Thread nD τ) ↦[arg5.view.set]{fullShare} f')
            ∗ ⌜arg5.view.read (Elt F) f' = trip0 i arg0 v7 v9 v13 v19 hw v39 k (arg5.view.read (Elt F) f)⌝)) := by
  unfold k0_t1_body
  iintro H
  sl_exec
  sl_step
  iexists _; isplitl [H]; · iexact H
  ipureintro
  rw [View.read_writes_cons_put _ _ _ _ _ rfl, View.readAt_unit _ _ _ rfl (k0_off1_inb i v13 v19 hw k)]
  rfl

set_option warn.classDefReducibility false in
/-- The loop over the windows: before trip `k` the accumulator shows `k` trips from what it showed at entry. -/
def loop_windows (G : BufTy.Contents (Elt F) arg5.view.ty) :
    LoopInvTy_k0_t1 (F := F) Unit ℕ UU ℕ 𝒱 c bd E i arg1 harg1 arg2 harg2 arg3 harg3 arg4 harg4 arg5 harg5 arg0 v7 v9 v13 v19 hw v39 where
  inv k _ := iprop(∃ f, (arg5.view.loc (c : Thread nD τ) ↦[arg5.view.set]{fullShare} f)
    ∗ ⌜arg5.view.read (Elt F) f = trips0 i arg0 v7 v9 v13 v19 hw v39 (arg5.view.read (Elt F) G) k⌝)
  step k acc := by
    iintro ⟨%f, H, %hf⟩
    iapply (wp_wand_r frame (wpE (defs₀ (F := F)) 𝒱 (c : Thread nD τ) bd) E)
    isplitl [H]
    · iapply (trip_run 𝒱 c bd E i arg1 harg1 arg2 harg2 arg3 harg3 arg4 harg4 arg5 harg5 arg0 v7 v9 v13 v19 hw v39 k f)
      iexact H
    · iintro %_ ⟨%f', H, %hf'⟩
      iexists f'; isplitl [H]; · iexact H
      ipureintro
      rw [hf', hf]
      exact (trips0_succ ..).symm

/-- The two loops, for any continuation, the second having no trip. -/
theorem loops_run (v61 : BitVec 32) (v75 : BitVec 1) (v76 : BitVec 32) (htr : (k0_t2_loop i v13 v19).trips = 0)
    (G : BufTy.Contents (Elt F) arg5.view.ty) (K : PUnit → sProp 𝕄) :
    iprop((arg5.view.loc (c : Thread nD τ) ↦[arg5.view.set]{fullShare} G)
        ∗ (∀ f, ⌜arg5.view.read (Elt F) f = trips0 i arg0 v7 v9 v13 v19 hw v39 (arg5.view.read (Elt F) G) (k0_t1_loop i v13 v19).trips⌝
            -∗ (arg5.view.loc (c : Thread nD τ) ↦[arg5.view.set]{fullShare} f) -∗ K ⟨⟩))
      ⊢ wp frame (wpE (defs₀ (F := F)) 𝒱 (c : Thread nD τ) bd) E
          (do
            Scf.Loop.for (k0_t1_loop i v13 v19) (k0_t1_ok i v13 v19 hw) ⟨⟩
              (k0_t1_body (F := F) i arg1 harg1 arg2 harg2 arg3 harg3 arg4 harg4 arg5 harg5 arg0 v7 v9 v13 v19 hw v39)
            Scf.Loop.for (k0_t2_loop i v13 v19) (k0_t2_ok i v13 v19 hw) ⟨⟩
              (k0_t2_body (F := F) i arg1 harg1 arg2 harg2 arg3 harg3 arg4 harg4 arg5 harg5 arg0 v7 v9 v13 v19 hw v39 v61 v75 v76)
            pure ⟨⟩) K := by
  let L := loop_windows 𝒱 c bd E i arg1 harg1 arg2 harg2 arg3 harg3 arg4 harg4 arg5 harg5 arg0 v7 v9 v13 v19 hw v39 G
  iintro ⟨H, Hk⟩
  sl_exec
  sl_step
  iapply Hk $$ %fL0 %hL1
  iexact H

end Loop

section Body

attribute [local irreducible] k0_pay3 k0_pay4 k0_pay5 k0_pay6 extractAt

variable (𝒱₀ : Variants) (c : Dev nD) (i : grid0.Coords) (arg1 : Memref sig .tc .vmem S2560x128 .f32) (harg1 : arg1.IsWhole)
    (arg2 : Memref sig .tc .vmem S1x1x2560 .i32) (harg2 : arg2.IsWhole) (arg3 : Memref sig .tc .vmem S1x1x2560 .i32) (harg3 : arg3.IsWhole)
    (arg4 : Memref sig .tc .vmem S128x256 .bf16) (harg4 : arg4.IsWhole) (arg5 : Memref sig .tc .vmem S10240x256 .f32) (harg5 : arg5.IsWhole)

/-- Whether the previous block's maximum has another sign than 128 and a remainder by it: the kernel's correction of its division. -/
@[reducible] def corrW (v : BitVec 32) : BitVec 1 :=
  Scalar.andi
    (Scalar.cmpi .ne
      (Scalar.subi (Scalar.extui (Scalar.cmpi .sgt v 0#32)) (Scalar.extui (Scalar.cmpi .slt v 0#32)))
      (Scalar.subi (Scalar.extui (Scalar.cmpi .sgt 128#32 0#32)) (Scalar.extui (Scalar.cmpi .slt 128#32 0#32))))
    (Scalar.cmpi .ne (Scalar.remsi v 128#32) 0#32)

/-- What the first part hands on: the network's rows `p3`, the segment numbers `p4`, the two maxima `a` and `b`, and words of them. -/
def handed (p3 : FVec F S2560x256 .bf16) (p4 : IVec S2560 32) (a b : BitVec 32) (h : k0_chk1 i a b) :
    Σ' (arg0 : BitVec 32) (v7 : FVec F S2560x256 .bf16) (v9 : IVec S2560 32) (v13 : BitVec 32) (v19 : BitVec 32)
      (k0_hw1 : k0_chk1 i v13 v19) (v20 : BitVec 1) (v21 : BitVec 32) (v35 : BitVec 1), BitVec 32 :=
  ⟨BitVec.ofNat 32 (i 0).val, p3, p4, a, b, h, Scalar.cmpi .eq (BitVec.ofNat 32 (i 0).val) 0#32, Scalar.divsi b 128#32, corrW b, 1#32⟩

/-- The body's first part: it loads the inputs and hands on the network of the rows, the segment numbers and the two maxima. -/
theorem part1_run (f1 : BufTy.Contents (Elt F) arg1.view.ty) (f2 : BufTy.Contents (Elt F) arg2.view.ty)
    (f3 : BufTy.Contents (Elt F) arg3.view.ty) (f4 : BufTy.Contents (Elt F) arg4.view.ty)
    (hw : k0_chk1 i (maxW (arg2.view.read (Elt F) f2)) (maxP (arg3.view.read (Elt F) f3))) :
    iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg4.view.loc (c : Thread nD τ) ↦[arg4.view.set]{fullShare} f4))
      ⊢@{sProp 𝕄} wp frame (wpE (defs₀ (F := F)) 𝒱₀ (c : Thread nD τ) none) Set.univ
          (k0_part1_skel (F := F) i arg1 harg1 arg2 harg2 arg3 harg3 arg4 harg4 arg5 harg5)
          (fun r => iprop(⌜r = handed i (k0_pay3 (arg1.view.read (Elt F) f1) (arg4.view.read (Elt F) f4))
                (k0_pay4 (arg2.view.read (Elt F) f2)) (maxW (arg2.view.read (Elt F) f2)) (maxP (arg3.view.read (Elt F) f3)) hw⌝
            ∗ (arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3) ∗ (arg4.view.loc (c : Thread nD τ) ↦[arg4.view.set]{fullShare} f4))) := by
  have r2 : arg2.view.readAt (Elt F) (Rect.unit ![0, 0, 0] S1x1x2560.size inb_S1x1x2560_S1x1x2560_0_0_0).toLoadRect f2
      = arg2.view.read (Elt F) f2 := View.readAt_full ..
  have r3 : arg3.view.readAt (Elt F) (Rect.unit ![0, 0, 0] S1x1x2560.size inb_S1x1x2560_S1x1x2560_0_0_0).toLoadRect f3
      = arg3.view.read (Elt F) f3 := View.readAt_full ..
  have hw' : k0_chk1 i (maxW (arg2.view.readAt (Elt F) (Rect.unit ![0, 0, 0] S1x1x2560.size inb_S1x1x2560_S1x1x2560_0_0_0).toLoadRect f2))
      (maxP (arg3.view.readAt (Elt F) (Rect.unit ![0, 0, 0] S1x1x2560.size inb_S1x1x2560_S1x1x2560_0_0_0).toLoadRect f3)) := by
    rw [r2, r3]; exact hw
  unfold k0_part1_skel
  iintro ⟨H1, H2, H3, H4⟩
  sl_exec (disch := exact hw')
  sl_step
  isplitr; swap
  · isplitl [H1]; · iexact H1
    isplitl [H2]; · iexact H2
    isplitl [H3]; · iexact H3
    iexact H4
  ipureintro
  delta part1_run.sl.v13 part1_run.sl.v19 part1_run.sl.v20 part1_run.sl.v21 part1_run.sl.v35
  unfold handed maxW maxP corrW
  rw [View.readAt_full, View.readAt_full]
  rfl

/-- The body after its first part, for any continuation: the second part computes words only, and the two loops follow. -/
theorem rest_run (v7 : FVec F S2560x256 .bf16) (v9 : IVec S2560 32) (v13 v19 : BitVec 32) (hw : k0_chk1 i v13 v19)
    (htr : (k0_t2_loop i v13 v19).trips = 0) (G : BufTy.Contents (Elt F) arg5.view.ty) (K : PUnit → sProp 𝕄) :
    iprop((arg5.view.loc (c : Thread nD τ) ↦[arg5.view.set]{fullShare} G)
        ∗ (∀ f, ⌜arg5.view.read (Elt F) f = trips0 i (BitVec.ofNat 32 (i 0).val) v7 v9 v13 v19 hw (startW i v19) (arg5.view.read (Elt F) G)
              (k0_t1_loop i v13 v19).trips⌝
            -∗ (arg5.view.loc (c : Thread nD τ) ↦[arg5.view.set]{fullShare} f) -∗ K ⟨⟩))
      ⊢ wp frame (wpE (defs₀ (F := F)) 𝒱₀ (c : Thread nD τ) none) Set.univ
          (k0_part2_skel (F := F) i arg1 harg1 arg2 harg2 arg3 harg3 arg4 harg4 arg5 harg5 (BitVec.ofNat 32 (i 0).val) v13
              (Scalar.cmpi .eq (BitVec.ofNat 32 (i 0).val) 0#32) (Scalar.divsi v19 128#32) (corrW v19) 1#32 >>= fun r => do
            Scf.Loop.for (k0_t1_loop i v13 v19) (k0_t1_ok i v13 v19 hw) ⟨⟩
              (k0_t1_body (F := F) i arg1 harg1 arg2 harg2 arg3 harg3 arg4 harg4 arg5 harg5 (BitVec.ofNat 32 (i 0).val) v7 v9 v13 v19 hw r.1)
            Scf.Loop.for (k0_t2_loop i v13 v19) (k0_t2_ok i v13 v19 hw) ⟨⟩
              (k0_t2_body (F := F) i arg1 harg1 arg2 harg2 arg3 harg3 arg4 harg4 arg5 harg5 (BitVec.ofNat 32 (i 0).val) v7 v9 v13 v19 hw r.1
                r.2.1 r.2.2.1 r.2.2.2)
            pure ⟨⟩) K := by
  unfold k0_part2_skel
  rw [pure_bind]
  exact loops_run 𝒱₀ c none Set.univ i arg1 harg1 arg2 harg2 arg3 harg3 arg4 harg4 arg5 harg5 _ _ _ _ _ hw _ _ _ _ htr G K

/-- Kernel 0's body, for any continuation: from its four inputs at `X0 … X3` and the accumulator at `X4` it leaves the inputs and the
    accumulator at `step0`, the two maxima meeting what the kernel assumes and leaving the remainder loop no trip. -/
theorem body0 (X0 : Vec F S2560x128 .f32) (X1 X2 : Vec F S1x1x2560 .i32) (X3 : Vec F S128x256 .bf16) (X4 : Vec F S10240x256 .f32)
    (hw : k0_chk1 i (maxW X1) (maxP X2)) (htr : (k0_t2_loop i (maxW X1) (maxP X2)).trips = 0) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (step0 i X0 X1 X2 X3 hw X4)) -∗ K ⟨⟩))
      ⊢ wp frame (wpE (defs₀ (F := F)) 𝒱₀ c none) Set.univ
          (cc0__pointnet_segsum_body i arg1 harg1 arg2 harg2 arg3 harg3 arg4 harg4 arg5 harg5) K := by
  simp only [cc0__pointnet_segsum_body_eq_skeleton]; unfold cc0__pointnet_segsum_body_skel
  simp only [k0_part1_eq_skeleton, k0_part2_eq_skeleton]
  unfold owns
  iintro ⟨⟨%f1, %e1, H1⟩, ⟨%f2, %e2, H2⟩, ⟨%f3, %e3, H3⟩, ⟨%f4, %e4, H4⟩, ⟨%f5, %e5, H5⟩, Hk⟩
  subst e1; subst e2; subst e3; subst e4; subst e5
  rw [wp_bind]
  iapply (wp_wand_r frame (wpE (defs₀ (F := F)) 𝒱₀ (c : Thread nD τ) none) Set.univ)
  isplitl [H1 H2 H3 H4]
  · iapply (part1_run 𝒱₀ c i arg1 harg1 arg2 harg2 arg3 harg3 arg4 harg4 arg5 harg5 f1 f2 f3 f4 hw)
    isplitl [H1]; · iexact H1
    isplitl [H2]; · iexact H2
    isplitl [H3]; · iexact H3
    iexact H4
  iintro %r ⟨%hr, H1, H2, H3, H4⟩
  subst hr
  iapply (rest_run 𝒱₀ c i arg1 harg1 arg2 harg2 arg3 harg3 arg4 harg4 arg5 harg5 (k0_pay3 (arg1.view.read (Elt F) f1) (arg4.view.read (Elt F) f4))
                (k0_pay4 (arg2.view.read (Elt F) f2)) _ _ hw htr f5 K)
  isplitl [H5]; · iexact H5
  iintro %f %hf H5
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  iexists f; isplitr; swap; · iexact H5
  ipureintro; exact hf

end Body

end Cert.KernelIdeal.Hand

end
-- ==== Proof.KI.Max.lean ====
/-
  The largest segment number of a block, as the kernel reduces it: for numbers below 10000 it is one of the block's, and none is larger.
-/
module

public import proofs.«01_k».proof.Proof.KI.Body0

@[expose] public section

set_option maxRecDepth 16384

noncomputable section

namespace Cert.KernelIdeal.Hand

open Cert.KernelIdeal Cert.KernelIdeal.Gen Cert.Hand
open Idealize.ShloMosaic

variable {F : FTy → Type} [FloatOps F]

/-- The one index of the reduced shape. -/
theorem sub_S1 : ∀ a b : S1.Idx, a = b := fun a b => funext fun x => by
  fin_cases x; exact Subsingleton.elim (α := Fin 1) _ _

/-- A block's element under the casts the reduction reads it through. -/
theorem max_of_lt (v : IVec S1x1x2560 32) (h : ∀ j, (v j).toNat < 10000) (r : S1.Idx) :
    let m := multiReductionI .maxsi [1] S1 (shapeCast S1x2560 (shapeCast S2560 v shapeCasts_S1x1x2560_S2560) shapeCasts_S2560_S1x2560)
      2147483648#32 reduces_S1x2560_S1 rfl r
    (∃ j, m = v j) ∧ ∀ j, (v j).toNat ≤ m.toNat := by
  intro m
  have hm : m = (Finset.univ.filter fun i => reduces_S1x2560_S1.drop i = r).fold IntOp.maxsi 2147483648#32
      (shapeCast S1x2560 (shapeCast S2560 v shapeCasts_S1x1x2560_S2560) shapeCasts_S2560_S1x2560) := multiReductionI_eq_fold ..
  have hf : (Finset.univ.filter fun i => reduces_S1x2560_S1.drop i = r) = Finset.univ :=
    Finset.filter_true_of_mem fun i _ => sub_S1 _ _
  rw [hf] at hm
  have hin : ∀ i ∈ (Finset.univ : Finset S1x2560.Idx),
      (shapeCast S1x2560 (shapeCast S2560 v shapeCasts_S1x1x2560_S2560) shapeCasts_S2560_S1x2560 i).toNat < 10000 := fun i _ => h _
  rcases maxsi_fold _ _ hin with ⟨e, -⟩ | ⟨⟨x, -, ex⟩, hle⟩
  · exact absurd e (Finset.Nonempty.ne_empty ⟨fun a => ⟨0, by fin_cases a <;> decide⟩, Finset.mem_univ _⟩)
  · rw [hm]
    refine ⟨⟨_, ex⟩, fun j => ?_⟩
    have := hle ((Shape.reshapeEquiv shapeCasts_S2560_S1x2560).symm ((Shape.reshapeEquiv shapeCasts_S1x1x2560_S2560).symm j)) (Finset.mem_univ _)
    unfold shapeCast at this ⊢
    simpa only [Equiv.apply_symm_apply] using this

theorem maxW_spec (v : Vec F S1x1x2560 .i32) (h : ∀ j, (v j : BitVec 32).toNat < 10000) :
    (∃ j, maxW v = v j) ∧ ∀ j, (v j : BitVec 32).toNat ≤ (maxW v).toNat :=
  max_of_lt v h _

theorem maxP_spec (v : Vec F S1x1x2560 .i32) (h : ∀ j, (v j : BitVec 32).toNat < 10000) :
    (∃ j, maxP v = v j) ∧ ∀ j, (v j : BitVec 32).toNat ≤ (maxP v).toNat :=
  max_of_lt v h _

/-- So the maximum is below 10000 too. -/
theorem maxW_lt (v : Vec F S1x1x2560 .i32) (h : ∀ j, (v j : BitVec 32).toNat < 10000) : (maxW v).toNat < 10000 := by
  obtain ⟨⟨j, e⟩, -⟩ := maxW_spec v h; rw [e]; exact h j

theorem maxP_lt (v : Vec F S1x1x2560 .i32) (h : ∀ j, (v j : BitVec 32).toNat < 10000) : (maxP v).toNat < 10000 := by
  obtain ⟨⟨j, e⟩, -⟩ := maxP_spec v h; rw [e]; exact h j

end Cert.KernelIdeal.Hand

end
-- ==== Proof.KI.Region0.lean ====
/-
  Kernel 0 (the point network and the segment sum over 2560 points): the region's proof data and body. One point applies `step0` to the
  output buffer, which is held across all points.
-/
module

public import proofs.«01_k».proof.Proof.KI.Max
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F] [∀ e, Nonempty (Elt F e)]

local notation "𝕄" => MT nD τ sig Unit (Elt F) ℕ UU ℕ

/-- The block input window `w` of kernel 0 shows at point `t`, of the unscoped buffers at `V`. -/
abbrev blk0 (V : Valuation τ sig (Elt F)) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- What kernel 0 makes at point `t` of the output buffer at `Y`: `X` is the point's windows' sums put into `Y`. -/
def Stepped (V : Valuation τ sig (Elt F)) (t : Fin cfg0.N) (Y X : Vec F S10240x256 .f32) : Prop :=
  ∃ hw : k0_chk1 (grid0.coords t) (maxW (blk0 V (1 : Fin 5) t)) (maxP (blk0 V (2 : Fin 5) t)),
    X = step0 (grid0.coords t) (blk0 V (0 : Fin 5) t) (blk0 V (1 : Fin 5) t) (blk0 V (2 : Fin 5) t) (blk0 V (3 : Fin 5) t) hw Y

/-- Kernel 0's proof data on core `c`, entered with the unscoped buffers at `V`: the inputs are left as found, the output is stepped. -/
def rd0 (V : Valuation τ sig (Elt F)) (c : Dev nD) : RDat τ (Elt F) Unit ℕ UU ℕ cfg0 c where
  A w := V (Proc.devRef .tc (Pipeline.arrRef spec0 w))
  after w t Y X := match w with
    | ⟨0, _⟩ => X = Y
    | ⟨1, _⟩ => X = Y
    | ⟨2, _⟩ => X = Y
    | ⟨3, _⟩ => X = Y
    | ⟨4, _⟩ => Stepped V t Y X
    | ⟨_ + 5, h⟩ => absurd h (Nat.not_lt.2 (Nat.le_add_left _ _))
  Φ _ := Pipeline.scopedRest (Pipeline.pin (pcfgs (F := F)) adm 0).spec c
  q w := Pipeline.shareOf (Pipeline.pin (pcfgs (F := F)) adm 0).spec w
  owed _ := 0

section Obligation

variable (𝒱₀ : Variants) (V : Valuation τ sig (Elt F)) (c : Dev nD)

/-- An input window of kernel 0 shows its block at every point. -/
theorem finds0 (w : Fin 5) (hw : w ≠ 4) (t : Fin cfg0.N) (Y : (cfg0.win w).block.Idx → Elt F (cfg0.win w).elt) (h : (rd0 V c).Finds w t Y) :
    ∃ d, Y = (rd0 V c).fetched w t d :=
  (rd0 V c).finds_in_eq_fetched w (ins0 w hw) (fun _ _ _ => by fin_cases w <;> rfl)
    (fun t Y X hX => by fin_cases w <;> first | exact absurd rfl hw | exact hX) t Y h

/-- The segment numbers kernel 0 reads are those of a list of segments below 10000. -/
def Ranged (V : Valuation τ sig (Elt F)) : Prop := ∀ j : S125x1x2560.Idx, (V (Proc.devRef .tc main_v0) j : BitVec 32).toNat < 10000

/-- So are those of a block of them, of a point's and of the point's before. -/
theorem ranged1 (hr : Ranged V) (t : Fin cfg0.N) (j : S1x1x2560.Idx) : (blk0 V (1 : Fin 5) t j : BitVec 32).toNat < 10000 := hr _

theorem ranged2 (hr : Ranged V) (t : Fin cfg0.N) (j : S1x1x2560.Idx) : (blk0 V (2 : Fin 5) t j : BitVec 32).toNat < 10000 := hr _

/-- Then the windows of the point's loop are inside the buffer, and the rest loop makes no trip. -/
theorem chk0 (hr : Ranged V) (t : Fin cfg0.N) :
    k0_chk1 (grid0.coords t) (maxW (blk0 V (1 : Fin 5) t)) (maxP (blk0 V (2 : Fin 5) t)) ∧
      (k0_t2_loop (grid0.coords t) (maxW (blk0 V (1 : Fin 5) t)) (maxP (blk0 V (2 : Fin 5) t))).trips = 0 :=
  ⟨chk1_of_lt _ (maxW_lt _ (ranged1 V hr t)) (maxP_lt _ (ranged2 V hr t)),
    (loops_eq _ (maxW_lt _ (ranged1 V hr t)) (maxP_lt _ (ranged2 V hr t))).2.2.2⟩

/-- A step from the blocks the windows show is a step of the region. -/
theorem stepped_of (t : Fin cfg0.N) {y0 : Vec F S2560x128 .f32} {y1 y2 : Vec F S1x1x2560 .i32} {y3 : Vec F S128x256 .bf16}
    (e0 : y0 = blk0 V (0 : Fin 5) t) (e1 : y1 = blk0 V (1 : Fin 5) t) (e2 : y2 = blk0 V (2 : Fin 5) t) (e3 : y3 = blk0 V (3 : Fin 5) t)
    (hw : k0_chk1 (grid0.coords t) (maxW y1) (maxP y2)) (Y : Vec F S10240x256 .f32) : Stepped V t Y (step0 (grid0.coords t) y0 y1 y2 y3 hw Y) := by
  subst e0; subst e1; subst e2; subst e3
  exact ⟨hw, rfl⟩

/-- The body table's row at a point is kernel 0's body. -/
theorem row0 (t : Fin cfg0.N) : defs₀ (F := F) .tc cfg0.body (cfg0.bodyArgs t (cfg0.slots t)) = bodyAt0 t := by
  unfold defs₀; rw [Defs.onTc_tc]

/-- Kernel 0's body does at every point what its proof data say. -/
theorem obligation0 (hr : Ranged V) : (rd0 V c).BodyObligation defs₀ 𝒱₀ () Set.univ := fun t Y hY => by
  have e0 : Y (0 : Fin 5) = blk0 V (0 : Fin 5) t := by obtain ⟨d, hd⟩ := finds0 V c 0 (by decide) t _ (hY (0 : Fin 5)); exact hd
  have e1 : Y (1 : Fin 5) = blk0 V (1 : Fin 5) t := by obtain ⟨d, hd⟩ := finds0 V c 1 (by decide) t _ (hY (1 : Fin 5)); exact hd
  have e2 : Y (2 : Fin 5) = blk0 V (2 : Fin 5) t := by obtain ⟨d, hd⟩ := finds0 V c 2 (by decide) t _ (hY (2 : Fin 5)); exact hd
  have e3 : Y (3 : Fin 5) = blk0 V (3 : Fin 5) t := by obtain ⟨d, hd⟩ := finds0 V c 3 (by decide) t _ (hY (3 : Fin 5)); exact hd
  have hY : k0_chk1 (grid0.coords t) (maxW (Y (1 : Fin 5))) (maxP (Y (2 : Fin 5))) ∧
      (k0_t2_loop (grid0.coords t) (maxW (Y (1 : Fin 5))) (maxP (Y (2 : Fin 5)))).trips = 0 := by
    rw [e1, e2]; exact chk0 V hr t
  rw [bigSep_W0, bigSep_W0, row0, show (rd0 V c).Φ t.succ = (rd0 V c).Φ t.castSucc from rfl,
    show (rd0 V c).owesAt () t.succ = (rd0 V c).owesAt () t.castSucc from rfl]
  iintro ⟨HΦ, HO, H0, H1, H2, H3, H4⟩
  iapply (body0 𝒱₀ c (grid0.coords t) _ (hstage0_0 ((cfg0.slots t 0).cast nbuf0_0)) _ (hstage0_1 ((cfg0.slots t 1).cast nbuf0_1)) _ (hstage0_2 ((cfg0.slots t 2).cast nbuf0_2)) _
    (hstage0_3 ((cfg0.slots t 3).cast nbuf0_3)) _ (hstage0_4 ((cfg0.slots t 4).cast nbuf0_4)) (Y (0 : Fin 5)) (Y (1 : Fin 5)) (Y (2 : Fin 5)) (Y (3 : Fin 5)) (Y (4 : Fin 5)) hY.1 hY.2 _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  iexists _; isplitr; swap; · iexact H4
  ipureintro
  exact stepped_of V t e0 e1 e2 e3 hY.1 _

/-- So kernel 0 owes the run nothing more. -/
theorem ok0 (hr : Ranged V) : RegionOK 𝒱₀ 0 V (rd0 V) := by
  refine ⟨?_, ?_, ?_, ?_, ?_, ?_⟩
  · intro c w; rfl
  · intro c t; dsimp only [rd0]
  · intro c w _; dsimp only [rd0]
  · intro c t; rfl
  · intro c t; rfl
  · exact fun c => obligation0 𝒱₀ V c hr

end Obligation

end Cert.KernelIdeal.Hand

end
-- ==== Proof.KI.Region1.lean ====
/-
  Kernel 1 (the reducing network on 2048 rows of the segment sums): what one point stores, and the region's proof data and body.
-/
module

public import proofs.«01_k».proof.Proof.KI.Run
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F] [∀ e, Nonempty (Elt F e)]

local notation "𝕄" => MT nD τ sig Unit (Elt F) ℕ UU ℕ

/-- The block input window `w` of kernel 1 shows at point `t`, of the unscoped buffers at `V`. -/
abbrev blk1 (V : Valuation τ sig (Elt F)) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- What kernel 1 stores at point `t`: the network of the point's 2048 rows. -/
def out1 (V : Valuation τ sig (Elt F)) (t : Fin cfg1.N) : Vec F S2048x128 .f32 :=
  k1_pay1 (blk1 V (1 : Fin 5) t) (blk1 V (2 : Fin 5) t) (blk1 V (0 : Fin 5) t) (blk1 V (3 : Fin 5) t)

/-- Kernel 1's proof data on core `c`, entered with the unscoped buffers at `V`: the inputs are left as found, the output's block holds
    `out1`. -/
def rd1 (V : Valuation τ sig (Elt F)) (c : Dev nD) : RDat τ (Elt F) Unit ℕ UU ℕ cfg1 c where
  A w := V (Proc.devRef .tc (Pipeline.arrRef spec1 w))
  after w t Y X := match w with
    | ⟨0, _⟩ => X = Y
    | ⟨1, _⟩ => X = Y
    | ⟨2, _⟩ => X = Y
    | ⟨3, _⟩ => X = Y
    | ⟨4, _⟩ => X = out1 V t
    | ⟨_ + 5, h⟩ => absurd h (Nat.not_lt.2 (Nat.le_add_left _ _))
  Φ _ := Pipeline.scopedRest (Pipeline.pin (pcfgs (F := F)) adm 1).spec c
  q w := Pipeline.shareOf (Pipeline.pin (pcfgs (F := F)) adm 1).spec w
  owed _ := 0

/-- Kernel 1's body, for any continuation: from its four inputs at `X0 … X3` and its output at anything, it leaves the inputs and
    stores the network of them. -/
theorem body1 (𝒱₀ : Variants) (c : Dev nD) (i : grid1.Coords) (arg1 : Memref sig .tc .vmem S2048x256 .f32) (harg1 : arg1.IsWhole)
    (arg2 : Memref sig .tc .vmem S256x128 .bf16) (harg2 : arg2.IsWhole) (arg3 : Memref sig .tc .vmem S128x256 .bf16) (harg3 : arg3.IsWhole)
    (arg4 : Memref sig .tc .vmem S256x128 .bf16) (harg4 : arg4.IsWhole) (arg5 : Memref sig .tc .vmem S2048x128 .f32) (harg5 : arg5.IsWhole)
    (X0 : Vec F S2048x256 .f32) (X1 : Vec F S256x128 .bf16) (X2 : Vec F S128x256 .bf16) (X3 : Vec F S256x128 .bf16) (X4 : Vec F S2048x128 .f32)
    (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4
        ∗ (iprop(owns (c : Thread nD τ) arg1 fullShare X0 ∗ owns (c : Thread nD τ) arg2 fullShare X1 ∗ owns (c : Thread nD τ) arg3 fullShare X2
            ∗ owns (c : Thread nD τ) arg4 fullShare X3 ∗ owns (c : Thread nD τ) arg5 fullShare (k1_pay1 X1 X2 X0 X3)) -∗ K ⟨⟩))
      ⊢ wp frame (wpE (defs₀ (F := F)) 𝒱₀ c none) Set.univ
          (cc1__reduce_net_body i arg1 harg1 arg2 harg2 arg3 harg3 arg4 harg4 arg5 harg5) K := by
  simp only [cc1__reduce_net_body_eq_skeleton]; unfold cc1__reduce_net_body_skel
  unfold owns
  iintro ⟨⟨%f1, %e1, H1⟩, ⟨%f2, %e2, H2⟩, ⟨%f3, %e3, H3⟩, ⟨%f4, %e4, H4⟩, ⟨%f5, -, H5⟩, Hk⟩
  subst e1; subst e2; subst e3; subst e4
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  iexists _; isplitr; swap; · iexact H5
  ipureintro
  rw [View.read_writes_full, View.readAt_full, View.readAt_full, View.readAt_full, View.readAt_full]

section Obligation

variable (𝒱₀ : Variants) (V : Valuation τ sig (Elt F)) (c : Dev nD)

/-- An input window of kernel 1 shows its block at every point. -/
theorem finds1 (w : Fin 5) (hw : w ≠ 4) (t : Fin cfg1.N) (Y : (cfg1.win w).block.Idx → Elt F (cfg1.win w).elt) (h : (rd1 V c).Finds w t Y) :
    ∃ d, Y = (rd1 V c).fetched w t d :=
  (rd1 V c).finds_in_eq_fetched w (ins1 w hw) (fun _ _ _ => by fin_cases w <;> rfl)
    (fun t Y X hX => by fin_cases w <;> first | exact absurd rfl hw | exact hX) t Y h

/-- The body table's row at a point is kernel 1's body. -/
theorem row1 (t : Fin cfg1.N) : defs₀ (F := F) .tc cfg1.body (cfg1.bodyArgs t (cfg1.slots t)) = bodyAt1 t := by
  unfold defs₀; rw [Defs.onTc_tc]

/-- Kernel 1's body does at every point what its proof data say. -/
theorem obligation1 : (rd1 V c).BodyObligation defs₀ 𝒱₀ () Set.univ := fun t Y hY => by
  have e0 : Y (0 : Fin 5) = blk1 V (0 : Fin 5) t := by obtain ⟨d, hd⟩ := finds1 V c 0 (by decide) t _ (hY (0 : Fin 5)); exact hd
  have e1 : Y (1 : Fin 5) = blk1 V (1 : Fin 5) t := by obtain ⟨d, hd⟩ := finds1 V c 1 (by decide) t _ (hY (1 : Fin 5)); exact hd
  have e2 : Y (2 : Fin 5) = blk1 V (2 : Fin 5) t := by obtain ⟨d, hd⟩ := finds1 V c 2 (by decide) t _ (hY (2 : Fin 5)); exact hd
  have e3 : Y (3 : Fin 5) = blk1 V (3 : Fin 5) t := by obtain ⟨d, hd⟩ := finds1 V c 3 (by decide) t _ (hY (3 : Fin 5)); exact hd
  rw [bigSep_W1, bigSep_W1, row1, show (rd1 V c).Φ t.succ = (rd1 V c).Φ t.castSucc from rfl,
    show (rd1 V c).owesAt () t.succ = (rd1 V c).owesAt () t.castSucc from rfl]
  iintro ⟨HΦ, HO, H0, H1, H2, H3, H4⟩
  iapply (body1 𝒱₀ c (grid1.coords t) _ (hstage1_0 ((cfg1.slots t 0).cast nbuf1_0)) _ (hstage1_1 ((cfg1.slots t 1).cast nbuf1_1)) _ (hstage1_2 ((cfg1.slots t 2).cast nbuf1_2)) _
    (hstage1_3 ((cfg1.slots t 3).cast nbuf1_3)) _ (hstage1_4 ((cfg1.slots t 4).cast nbuf1_4)) (Y (0 : Fin 5)) (Y (1 : Fin 5)) (Y (2 : Fin 5)) (Y (3 : Fin 5)) (Y (4 : Fin 5)) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  iexists _; isplitr; swap; · iexact H4
  ipureintro
  show k1_pay1 (Y (1 : Fin 5)) (Y (2 : Fin 5)) (Y (0 : Fin 5)) (Y (3 : Fin 5)) = out1 V t
  rw [e0, e1, e2, e3]; rfl

/-- So kernel 1 owes the run nothing more. -/
theorem ok1 : RegionOK 𝒱₀ 1 V (rd1 V) := by
  refine ⟨?_, ?_, ?_, ?_, ?_, ?_⟩
  · intro c w; rfl
  · intro c t; dsimp only [rd1]
  · intro c w _; dsimp only [rd1]
  · intro c t; rfl
  · intro c t; rfl
  · exact fun c => obligation1 𝒱₀ V c

end Obligation

end Cert.KernelIdeal.Hand

end
-- ==== Proof.KI.Frame.lean ====
/-
  The frame: from segment numbers below 10000 the program runs to its end, with its arguments unchanged and every counter at zero.
-/
module

public import proofs.«01_k».proof.Proof.KI.Region0
public import proofs.«01_k».proof.Proof.KI.Region1

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL.Sem

variable {F : FTy → Type} [FloatOps F] [∀ e, Nonempty (Elt F e)]

section Frame

variable (m : (ℓ : Loc nD τ sig) → Buf (Elt F) ℓ) (c : Dev nD)

/-- Before kernel 0 the blocks of segment numbers are the list of them, recast. -/
theorem V1_v0 : V1 m c (Proc.devRef .tc main_v0)
    = (shapeCast S125x1x2560 (m (c, Proc.devRef .tc main_arg1) : IVec S320000 32) shapeCasts_S320000_S125x1x2560 : IVec S125x1x2560 32) := by
  after_results <;> rfl

/-- So they are below 10000 when the list's are. -/
theorem ranged_V1 (h : ∀ i : S320000.Idx, (m (c, Proc.devRef .tc main_arg1) i : BitVec 32).toNat < 10000) : Ranged (V1 m c) := fun j => by
  rw [V1_v0]; exact h _

/-- The run's leavings and frame, from segment numbers below 10000. -/
theorem run_ranged (ρ : Dev nD → PrngReg) (h : ∀ c, ∀ i : S320000.Idx, (m (c, Proc.devRef .tc main_arg1) i : BitVec 32).toNat < 10000) :
    θ_run defs (onTc (τ := τ) (main (F := F))) ⟨m, fun _ => 0, ρ⟩ (fun r =>
      (∀ c : Dev nD, ∃ G H, Leaves m rd0 rd1 c G H ∧ ∀ b ∈ Pipeline.ucRefs τ sig, r.2.mem (c, b) = W5 m c G H b)
        ∧ r.2.sem = fun _ => 0) :=
  run m ρ Variants.none rd0 rd1 (fun c => ok0 Variants.none _ (ranged_V1 m c (h c))) (fun c G _ => ok1 Variants.none _)

/-- A buffer no item writes is unchanged at the end. -/
theorem kept {r : MemSt nD τ sig (Elt F)} {G : Arr0 F} {H : Arr1 F}
    (hr : ∀ b ∈ Pipeline.ucRefs τ sig, r.mem (c, b) = W5 m c G H b) (b : Ref sig .tc) (hb : Proc.devRef (τ := τ) .tc b ∈ Pipeline.ucRefs τ sig)
    (h : b ∉ hostOps0_W ++ main_v2 :: hostOps1_W) (h' : b ∉ main_v6 :: hostOps2_W) : r.mem (c, Proc.devRef .tc b) = m (c, Proc.devRef .tc b) :=
  (hr _ hb).trans (W5_keep m c G H b h h')

/-- The arguments of the program, unchanged on core `c`. -/
def ArgsKept (r : MemSt nD τ sig (Elt F)) : Prop :=
  r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3)
    ∧ r.mem ((c.tc : Thread nD τ).loc main_arg4) = m ((c.tc : Thread nD τ).loc main_arg4)
    ∧ r.mem ((c.tc : Thread nD τ).loc main_arg5) = m ((c.tc : Thread nD τ).loc main_arg5)
    ∧ r.mem ((c.tc : Thread nD τ).loc main_arg6) = m ((c.tc : Thread nD τ).loc main_arg6)
    ∧ r.mem ((c.tc : Thread nD τ).loc main_arg7) = m ((c.tc : Thread nD τ).loc main_arg7)
    ∧ r.mem ((c.tc : Thread nD τ).loc main_arg8) = m ((c.tc : Thread nD τ).loc main_arg8)
    ∧ r.mem ((c.tc : Thread nD τ).loc main_arg9) = m ((c.tc : Thread nD τ).loc main_arg9)

theorem args_kept {r : MemSt nD τ sig (Elt F)} {G : Arr0 F} {H : Arr1 F}
    (hr : ∀ b ∈ Pipeline.ucRefs τ sig, r.mem (c, b) = W5 m c G H b) : ArgsKept m c r := by
  refine ⟨?_, ?_, ?_, ?_, ?_, ?_, ?_, ?_, ?_, ?_⟩ <;>
    exact kept m c hr _ (Finset.mem_filter.mpr ⟨StableHlo.devRef_mem_tcRefs _, by decide⟩) (by decide) (by decide)

/-- THE FRAME. -/
theorem frame_ranged (ρ : Dev nD → PrngReg) (h : ∀ c, ∀ i : S320000.Idx, (m (c, Proc.devRef .tc main_arg1) i : BitVec 32).toNat < 10000) :
    θ_run defs (onTc (τ := τ) (main (F := F))) ⟨m, fun _ => 0, ρ⟩ (fun r => (∀ c : Dev nD, ArgsKept m c r.2) ∧ r.2.sem = fun _ => 0) :=
  (θ_run defs _ _).mono (fun _ hq => ⟨fun c => by obtain ⟨G, H, -, hr⟩ := hq.1 c; exact args_kept m c hr, hq.2⟩) (run_ranged m ρ h)

end Frame

end Cert.KernelIdeal.Hand

end
-- ==== Proof.RefFrame.lean ====
/-
  The reference: it runs to its end with its arguments unchanged; it has no counter.
-/
module

public import proofs.«01_k».proof.Proof.Gen.ReferenceIdeal.Run
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem

variable {F : FTy → Type} [FloatOps F] (m : (ℓ : Loc nD τ sig) → Buf (Elt F) ℓ) (c : Dev nD)

/-- The arguments of the program, unchanged on core `c`. -/
def ArgsKept (r : MemSt nD τ sig (Elt F)) : Prop :=
  r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2)
    ∧ r.mem ((c.tc : Thread nD τ).loc main_arg3) = m ((c.tc : Thread nD τ).loc main_arg3)
    ∧ r.mem ((c.tc : Thread nD τ).loc main_arg4) = m ((c.tc : Thread nD τ).loc main_arg4)
    ∧ r.mem ((c.tc : Thread nD τ).loc main_arg5) = m ((c.tc : Thread nD τ).loc main_arg5)
    ∧ r.mem ((c.tc : Thread nD τ).loc main_arg6) = m ((c.tc : Thread nD τ).loc main_arg6)
    ∧ r.mem ((c.tc : Thread nD τ).loc main_arg7) = m ((c.tc : Thread nD τ).loc main_arg7)
    ∧ r.mem ((c.tc : Thread nD τ).loc main_arg8) = m ((c.tc : Thread nD τ).loc main_arg8)
    ∧ r.mem ((c.tc : Thread nD τ).loc main_arg9) = m ((c.tc : Thread nD τ).loc main_arg9)

/-- THE FRAME. -/
theorem frame (ρ : Dev nD → PrngReg) :
    θ_run defs (onTc (τ := τ) (main (F := F))) ⟨m, fun _ => 0, ρ⟩ (fun r => (∀ c : Dev nD, ArgsKept m c r.2) ∧ r.2.sem = fun _ => 0) :=
  (θ_run defs _ _).mono (fun r h => ⟨fun c => (h c).2, sem_eq_zero_of_no_sems (by decide) r.2⟩) (Cert.ReferenceIdeal.Value.run m ρ)

end Cert.ReferenceIdeal.Hand

end
-- ==== Proof.Pre.lean ====
/-
  What the first precondition says of the arguments: the segment numbers are below 10000.
-/
module

public import proofs.«01_k».proof.Proof.Gen.Pre_segments_in_range
public import Idealize.ShloMosaic.Lib.ReduceAll
public import Idealize.ShloMosaic.Lib.StableHlo.Predicate
public import Idealize.ShloMosaic.Lib.Pointwise
public import Idealize.ShloMosaic.PureOps.Ideal

@[expose] public section

set_option maxRecDepth 16384

noncomputable section

namespace Cert.Hand

open Idealize.ShloMosaic

/-- The empty tuple is the one index of a rank-0 shape. -/
local instance : Subsingleton ((⟨0, ![]⟩ : Shape).Idx) := ⟨fun a b => funext fun x => x.elim0⟩

/-- A word at least 0 and below 10000 as a signed number is below 10000 as a natural one. -/
theorem lt_of_range {x : BitVec 32} (h : IntOp.andi (IntOp.cmpi .sge x 0#32) (IntOp.cmpi .slt x 10000#32) = 1#1) : x.toNat < 10000 := by
  obtain ⟨h0, h1⟩ := IntOp.andi_eq_one.1 h
  unfold IntOp.cmpi at h0 h1
  simp only [StableHlo.Predicate.ofBool_eq_one_iff, BitVec.sle, BitVec.slt, decide_eq_true_eq,
    show (0#32 : BitVec 32).toInt = 0 from by decide, show (10000#32 : BitVec 32).toInt = 10000 from by decide] at h0 h1
  rw [BitVec.toInt_eq_toNat_cond] at h0 h1
  split at h0 <;> rename_i hc
  · rw [if_pos hc] at h1; omega
  · have := x.isLt; omega

section Range

variable {F : FTy → Type} [FloatOps F] (a0 : FVec F ⟨2, ![320000, 128]⟩ .f32) (a1 : IVec ⟨1, ![320000]⟩ 32) (a2 : FVec F ⟨2, ![128, 256]⟩ .f32)
  (a3 : FVec F ⟨1, ![256]⟩ .f32) (a4 : FVec F ⟨2, ![256, 128]⟩ .f32) (a5 : FVec F ⟨1, ![128]⟩ .f32) (a6 : FVec F ⟨2, ![128, 256]⟩ .f32)
  (a7 : FVec F ⟨1, ![256]⟩ .f32) (a8 : FVec F ⟨2, ![256, 128]⟩ .f32) (a9 : FVec F ⟨1, ![128]⟩ .f32)

/-- The first precondition: every segment number is below 10000. -/
theorem range_of_segments (h : Cert.Pre_segments_in_range.fn (F := F) a0 a1 a2 a3 a4 a5 a6 a7 a8 a9 = fun _ => 1#1) (i : (⟨1, ![320000]⟩ : Shape).Idx) :
    (a1 i).toNat < 10000 := by
  have h := congrFun h (fun x => x.elim0)
  dsimp only [Cert.Pre_segments_in_range.fn] at h
  exact lt_of_range (Host.reduce_andi_all _ _ _ _ _ h i)

end Range

end Cert.Hand

end
-- ==== Proof.PreGood.lean ====
/-
  What the second precondition says of the arguments: segment numbers below 10000 and sorted, the four biases zero, the points and three
  weight matrices finite.
-/
module

public import proofs.«01_k».proof.Proof.Pre
public import proofs.«01_k».proof.Proof.Gen.Pre_sorted_finite_unbiased
public import Idealize.ShloMosaic.Lib.ReduceAll
public import Idealize.ShloMosaic.Lib.StableHlo.Predicate
public import Idealize.ShloMosaic.Lib.Pointwise
public import Idealize.ShloMosaic.PureOps.Ideal

@[expose] public section

set_option maxRecDepth 16384

noncomputable section

namespace Cert.Hand

open Idealize.ShloMosaic

/-- The empty tuple is the one index of a rank-0 shape. -/
local instance : Subsingleton ((⟨0, ![]⟩ : Shape).Idx) := ⟨fun a b => funext fun x => x.elim0⟩

/-- What the second precondition says of the ideal values. -/
structure Good (a0 : FVec Ideal ⟨2, ![320000, 128]⟩ .f32) (a1 : IVec ⟨1, ![320000]⟩ 32) (a2 : FVec Ideal ⟨2, ![128, 256]⟩ .f32)
    (a3 : FVec Ideal ⟨1, ![256]⟩ .f32) (a4 : FVec Ideal ⟨2, ![256, 128]⟩ .f32) (a5 : FVec Ideal ⟨1, ![128]⟩ .f32) (a6 : FVec Ideal ⟨2, ![128, 256]⟩ .f32)
    (a7 : FVec Ideal ⟨1, ![256]⟩ .f32) (a9 : FVec Ideal ⟨1, ![128]⟩ .f32) : Prop where
  /-- every segment number is below 10000, -/
  range : ∀ i, (a1 i).toNat < 10000
  /-- each at most the next, -/
  step : ∀ n (h : n + 1 < 320000), (a1 (ix1 ⟨n, by omega⟩)).toNat ≤ (a1 (ix1 ⟨n + 1, h⟩)).toNat
  /-- the biases are zero, -/
  b3 : ∀ i, (a3 i : EReal) = 0
  b5 : ∀ i, (a5 i : EReal) = 0
  b7 : ∀ i, (a7 i : EReal) = 0
  b9 : ∀ i, (a9 i : EReal) = 0
  /-- and the points and the first three matrices are finite. -/
  f0 : ∀ i, ∃ r : ℝ, (a0 i : EReal) = r
  f2 : ∀ i, ∃ r : ℝ, (a2 i : EReal) = r
  f4 : ∀ i, ∃ r : ℝ, (a4 i : EReal) = r
  f6 : ∀ i, ∃ r : ℝ, (a6 i : EReal) = r

/-- A comparison with zero that holds. -/
theorem eq_zero_of_cmp {x : EReal} (h : Ideal.cmp .oeq x (Ideal.ofBits .f32 0x00000000#32) = 1#1) : x = 0 := by
  have e : Ideal.ofBits .f32 0x00000000#32 = 0 := by simp [Ideal.ofBits, Ideal.ieee]
  rw [e] at h
  have h := (StableHlo.Predicate.ofBool_eq_one_iff _).mp h
  simpa using h

/-- An absolute value below the infinity. -/
theorem finite_of_cmp {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  have h := (StableHlo.Predicate.ofBool_eq_one_iff _).mp h
  have h : max x (-x) < ⊤ := by simpa using h
  induction x using EReal.rec with
  | bot => simp at h
  | top => simp at h
  | coe r => exact ⟨r, rfl⟩

variable {a0 : FVec Ideal ⟨2, ![320000, 128]⟩ .f32} {a1 : IVec ⟨1, ![320000]⟩ 32} {a2 : FVec Ideal ⟨2, ![128, 256]⟩ .f32}
  {a3 : FVec Ideal ⟨1, ![256]⟩ .f32} {a4 : FVec Ideal ⟨2, ![256, 128]⟩ .f32} {a5 : FVec Ideal ⟨1, ![128]⟩ .f32} {a6 : FVec Ideal ⟨2, ![128, 256]⟩ .f32}
  {a7 : FVec Ideal ⟨1, ![256]⟩ .f32} {a8 : FVec Ideal ⟨2, ![256, 128]⟩ .f32} {a9 : FVec Ideal ⟨1, ![128]⟩ .f32}

/-- The second precondition, read. -/
theorem good_of_pre (h : Cert.Pre_sorted_finite_unbiased.fn (F := Ideal) a0 a1 a2 a3 a4 a5 a6 a7 a8 a9 = fun _ => 1#1) :
    Good a0 a1 a2 a3 a4 a5 a6 a7 a9 := by
  have h := congrFun h (fun x => x.elim0)
  dsimp only [Cert.Pre_sorted_finite_unbiased.fn, Cert.Pre_sorted_finite_unbiased.fn_part1, Cert.Pre_sorted_finite_unbiased.fn_part2] at h
  obtain ⟨h, h45⟩ := IntOp.andi_eq_one.1 h
  obtain ⟨h, h40⟩ := IntOp.andi_eq_one.1 h
  obtain ⟨h, h35⟩ := IntOp.andi_eq_one.1 h
  obtain ⟨h, h30⟩ := IntOp.andi_eq_one.1 h
  obtain ⟨h, h25⟩ := IntOp.andi_eq_one.1 h
  obtain ⟨h, h21⟩ := IntOp.andi_eq_one.1 h
  obtain ⟨h, h17⟩ := IntOp.andi_eq_one.1 h
  obtain ⟨h, h13⟩ := IntOp.andi_eq_one.1 h
  obtain ⟨h5, h9⟩ := IntOp.andi_eq_one.1 h
  have hr : ∀ i, (a1 i).toNat < 10000 := fun i => lt_of_range (Host.reduce_andi_all _ _ _ _ _ h5 i)
  refine ⟨hr, ?_, ?_, ?_, ?_, ?_, ?_, ?_, ?_, ?_⟩
  · intro n hn
    have hs := Host.reduce_andi_all _ _ _ _ _ h9 (ix1 ⟨n, by omega⟩)
    have ha := hr (ix1 ⟨n, by omega⟩)
    have hb := hr (ix1 ⟨n + 1, hn⟩)
    refine (StableHlo.Predicate.sle_iff_toNat (by omega) (by omega)).mp (Eq.trans ?_ hs)
    refine congrArg₂ (IntOp.cmpi .sle) (congrArg a1 ?_) (congrArg a1 ?_)
    · funext a; fin_cases a; exact Fin.ext (Nat.zero_add n).symm
    · funext a; fin_cases a; exact Fin.ext (Nat.add_comm n 1)
  · exact fun i => eq_zero_of_cmp (Host.reduce_andi_all _ _ _ _ _ h13 i)
  · exact fun i => eq_zero_of_cmp (Host.reduce_andi_all _ _ _ _ _ h17 i)
  · exact fun i => eq_zero_of_cmp (Host.reduce_andi_all _ _ _ _ _ h21 i)
  · exact fun i => eq_zero_of_cmp (Host.reduce_andi_all _ _ _ _ _ h25 i)
  · exact fun i => finite_of_cmp (Host.reduce_andi_all _ _ _ _ _ h30 i)
  · exact fun i => finite_of_cmp (Host.reduce_andi_all _ _ _ _ _ h35 i)
  · exact fun i => finite_of_cmp (Host.reduce_andi_all _ _ _ _ _ h40 i)
  · exact fun i => finite_of_cmp (Host.reduce_andi_all _ _ _ _ _ h45 i)

end Cert.Hand

end
-- ==== Proof.KI.Pay.lean ====
/-
  What the two kernels compute at one index, at the ideal values: the point network, a window's sum of the rows of its segments, and the
  second network.
-/
module

public import proofs.«01_k».proof.Proof.KI.Words
public import proofs.«01_k».proof.Proof.Gen.KernelIdeal.Skeleton
public import Idealize.ShloMosaic.Lib.Pointwise
public import Idealize.ShloMosaic.PureOps.Ideal

@[expose] public section

set_option maxRecDepth 16384

noncomputable section

namespace Cert.KernelIdeal.Hand

open Cert.KernelIdeal Cert.KernelIdeal.Gen Cert.Hand
open Idealize.ShloMosaic

/-- The point network's hidden row, at an index. -/
theorem pay3_apply (v0 : FVec Ideal S2560x128 .f32) (v2 : FVec Ideal S128x256 .bf16) (n : Fin 2560) (k : Fin 256) :
    (k0_pay3 (F := Ideal) v0 v2 (ix2 n k) : EReal) = max (∑ d : Fin 128, (v0 (ix2 n d) : EReal) * v2 (ix2 d k)) 0 := by
  unfold k0_pay3
  pointwise

/-- The words' one-hot entry times a value: the value where the words agree, zero elsewhere. -/
theorem onehot_mul (a b : BitVec 32) (x : EReal) :
    (FloatOps.sitofp (F := Ideal) FTy.f32 (BitVec.setWidth 32 (IntOp.cmpi CmpIPredicate.eq a b)) : EReal) * x = if a = b then x else 0 := by
  by_cases h : a = b
  · have e : BitVec.setWidth 32 (IntOp.cmpi CmpIPredicate.eq a b) = 1#32 := by subst h; simp [IntOp.cmpi]
    rw [e, if_pos h]
    show (((1#32 : BitVec 32).toInt : ℝ) : EReal) * x = x
    simp
  · have e : BitVec.setWidth 32 (IntOp.cmpi CmpIPredicate.eq a b) = 0#32 := by
      simp [IntOp.cmpi, beq_eq_false_iff_ne.mpr h]
    rw [e, if_neg h]
    show (((0#32 : BitVec 32).toInt : ℝ) : EReal) * x = 0
    simp

/-- What a trip stores at an index of its window: the sum of the block's rows whose segment that is, by itself where the window starts
    anew, and else added to what was there. -/
theorem pay1_apply (i : grid0.Coords) (arg0 : BitVec 32) (v7 : FVec Ideal S2560x256 .bf16) (v9 : IVec S2560 32) (v13 v19 v39 : BitVec 32)
    (t : Fin (k0_t1_loop i v13 v19).trips) (v101 : FVec Ideal S128x256 .f32) (r : Fin 128) (k : Fin 256) :
    (k0_pay1 (F := Ideal) i arg0 v7 v9 v13 v19 v39 t v101 (ix2 r k) : EReal)
      = (∑ n : Fin 2560, if v39 + Scf.iv 0#32 1#32 t * 128#32 + BitVec.ofNat 32 r = v9 (ix1 n) then (v7 (ix2 n k) : EReal) else 0)
        + if arg0 = 0#32 ∨ v39.slt (v39 + Scf.iv 0#32 1#32 t * 128#32) = true then 0 else (v101 (ix2 r k) : EReal) := by
  unfold k0_pay1
  pointwise
  have e : ∀ x : Fin 2560, _ := fun x => onehot_mul (IntOp.addi (Scalar.addi v39 (Scalar.muli (Scf.iv 0#32 1#32 t) 128#32)) (BitVec.ofNat 32 r))
    (v9 (ix1 x)) (v7 (ix2 x k))
  simp only [e]
  have hs : ∀ (b : BitVec 1) (x y : EReal), Scalar.select b x y = if b = 1#1 then x else y := fun b x y => rfl
  rw [hs]
  have hc : (Scalar.ori (Scalar.cmpi CmpIPredicate.eq arg0 0#32)
      (Scalar.cmpi CmpIPredicate.sgt (v39 + Scf.iv 0#32 1#32 t * 128#32) v39) = 1#1)
      ↔ (arg0 = 0#32 ∨ v39.slt (v39 + Scf.iv 0#32 1#32 t * 128#32) = true) := by
    generalize v39 + Scf.iv 0#32 1#32 t * 128#32 = u
    show BitVec.ofBool (arg0 == 0#32) ||| BitVec.ofBool (v39.slt u) = 1#1 ↔ _
    rw [show arg0 = 0#32 ↔ (arg0 == 0#32) = true from beq_iff_eq.symm]
    generalize (arg0 == 0#32) = p
    cases p <;> cases v39.slt u <;> decide
  refine (if_congr hc rfl rfl).trans ?_
  split
  · exact (add_zero _).symm
  · rfl

/-- The second network at an index. -/
theorem k1_pay1_apply (v0 : FVec Ideal S256x128 .bf16) (v2 : FVec Ideal S128x256 .bf16) (v6 : FVec Ideal S2048x256 .f32) (v13 : FVec Ideal S256x128 .bf16)
    (r : Fin 2048) (q : Fin 128) : (k1_pay1 (F := Ideal) v0 v2 v6 v13 (ix2 r q) : EReal)
      = ∑ j : Fin 256, max (∑ k : Fin 256, (v6 (ix2 r k) : EReal) * ∑ e : Fin 128, (v0 (ix2 k e) : EReal) * v2 (ix2 e j)) 0 * v13 (ix2 j q) := by
  unfold k1_pay1
  pointwise

end Cert.KernelIdeal.Hand

end
-- ==== Proof.KI.Step.lean ====
/-
  What a grid point of kernel 0 makes of the accumulator, at one index, at the ideal values: inside the point's windows the sum of the
  block's rows by segment, added to what was there in the first window only; elsewhere nothing.
-/
module

public import proofs.«01_k».proof.Proof.KI.Body0
public import proofs.«01_k».proof.Proof.KI.Pay

@[expose] public section

set_option maxRecDepth 16384

noncomputable section

namespace Cert.KernelIdeal.Hand

open Cert.KernelIdeal Cert.KernelIdeal.Gen Cert.Hand
open Idealize.ShloMosaic

/-- The block's segment numbers, as the kernel reads them. -/
theorem pay4_apply (X1 : Vec Ideal S1x1x2560 .i32) (n : Fin 2560) : k0_pay4 (F := Ideal) X1 (ix1 n) = X1 (ix3 0 0 n) := by
  unfold k0_pay4
  pointwise

/-- Whether the grid point's number is zero, as the kernel asks. -/
theorem arg0_zero_iff (i : grid0.Coords) : BitVec.ofNat 32 (i 0).val = 0#32 ↔ (i 0).val = 0 := by
  have h : (i 0).val < 125 := (i 0).isLt
  rw [← BitVec.toNat_inj, BitVec.toNat_ofNat, Nat.mod_eq_of_lt (by omega)]
  rfl

/-- Of two small numbers' words the order is theirs. -/
theorem slt_ofNat {a b : ℕ} (ha : a < 20000) (hb : b < 20000) : (BitVec.ofNat 32 a).slt (BitVec.ofNat 32 b) = true ↔ a < b := by
  rw [BitVec.slt_iff_toInt_lt, BitVec.toInt_eq_toNat_of_lt (by rw [BitVec.toNat_ofNat]; omega),
    BitVec.toInt_eq_toNat_of_lt (by rw [BitVec.toNat_ofNat]; omega), BitVec.toNat_ofNat, BitVec.toNat_ofNat]
  omega

/-- A small number's word is a word just when that word's number is it. -/
theorem ofNat_eq_iff {a : ℕ} (ha : a < 20000) (v : BitVec 32) : BitVec.ofNat 32 a = v ↔ v.toNat = a := by
  rw [← BitVec.toNat_inj, BitVec.toNat_ofNat, Nat.mod_eq_of_lt (by omega)]
  exact eq_comm

/-- The sum of a block's rows whose segment is `r`, in column `k`. -/
def blockSum (v7 : FVec Ideal S2560x256 .bf16) (v9 : IVec S2560 32) (r : ℕ) (k : Fin 256) : EReal :=
  ∑ n : Fin 2560, if (v9 (ix1 n)).toNat = r then (v7 (ix2 n k) : EReal) else 0

section Trips

variable (i : grid0.Coords) (v7 : FVec Ideal S2560x256 .bf16) (v9 : IVec S2560 32) (v13 v19 : BitVec 32)
    (h13 : v13.toNat < 10000) (h19 : v19.toNat < 10000) (hw : k0_chk1 i v13 v19)

include h13 h19

/-- What a trip stores, in numbers. -/
theorem pay1_nat (t : Fin (k0_t1_loop i v13 v19).trips) (v101 : FVec Ideal S128x256 .f32) (r : Fin 128) (k : Fin 256) :
    (k0_pay1 (F := Ideal) i (BitVec.ofNat 32 (i 0).val) v7 v9 v13 v19 (startW i v19) t v101 (ix2 r k) : EReal)
      = blockSum v7 v9 ((firstWin (i 0).val v19.toNat + t.val) * 128 + r.val) k
        + if (i 0).val = 0 ∨ 0 < t.val then 0 else (v101 (ix2 r k) : EReal) := by
  have h1 := window_le i h13 h19 t
  have h2 := lastWin_le (p := (i 0).val) h13
  have hr := r.isLt
  have hm : startW i v19 + Scf.iv 0#32 1#32 t * 128#32 = BitVec.ofNat 32 ((firstWin (i 0).val v19.toNat + t.val) * 128) :=
    mult1_eq i h19 t
  rw [pay1_apply, hm, startW_eq i h19]
  unfold blockSum
  congr 1
  · refine Finset.sum_congr rfl fun n _ => if_congr ?_ rfl rfl
    rw [← BitVec.ofNat_add, ofNat_eq_iff (by omega)]
  · refine if_congr (or_congr (arg0_zero_iff i) ?_) rfl rfl
    rw [slt_ofNat (by omega) (by omega)]
    omega

/-- One trip at an index: its window's rows are stored, the others kept. -/
theorem trip0_apply (t : Fin (k0_t1_loop i v13 v19).trips) (X : Vec Ideal S10240x256 .f32) (r : Fin 10240) (k : Fin 256) :
    (trip0 (F := Ideal) i (BitVec.ofNat 32 (i 0).val) v7 v9 v13 v19 hw (startW i v19) t X (ix2 r k) : EReal)
      = if r.val / 128 = firstWin (i 0).val v19.toNat + t.val then
          blockSum v7 v9 r.val k + if (i 0).val = 0 ∨ 0 < t.val then 0 else (X (ix2 r k) : EReal)
        else (X (ix2 r k) : EReal) := by
  unfold trip0 VecWindow.put
  have ho : ∀ a, k0_off1 i v13 v19 t a = (![(firstWin (i 0).val v19.toNat + t.val) * 128, 0] : Fin 2 → ℕ) a := fun a => congrFun (off1_eq i h13 h19 t) a
  have ho0 : k0_off1 i v13 v19 t 0 = (firstWin (i 0).val v19.toNat + t.val) * 128 := ho 0
  have ho1 : k0_off1 i v13 v19 t 1 = 0 := ho 1
  have hk := k.isLt
  by_cases hq : r.val / 128 = firstWin (i 0).val v19.toNat + t.val
  · have hin : ∀ a, k0_off1 i v13 v19 t a ≤ ((ix2 r k : S10240x256.Idx) a).val
        ∧ ((ix2 r k : S10240x256.Idx) a).val < k0_off1 i v13 v19 t a + S128x256.size a := by
      intro a
      fin_cases a
      · show k0_off1 i v13 v19 t 0 ≤ r.val ∧ r.val < k0_off1 i v13 v19 t 0 + 128
        rw [ho0]; omega
      · show k0_off1 i v13 v19 t 1 ≤ k.val ∧ k.val < k0_off1 i v13 v19 t 1 + 256
        rw [ho1]; omega
    rw [dif_pos hin, if_pos hq]
    have hu : (Rect.unitLocal (s := S10240x256) (off := k0_off1 i v13 v19 t) (size := S128x256.size) (ix2 r k) hin : S128x256.Idx)
        = ix2 (⟨r.val % 128, Nat.mod_lt _ (by norm_num)⟩ : Fin 128) k := by
      funext a
      fin_cases a
      · refine Fin.ext ?_
        show r.val - k0_off1 i v13 v19 t 0 = r.val % 128
        rw [ho0]; omega
      · refine Fin.ext ?_
        show k.val - k0_off1 i v13 v19 t 1 = k.val
        rw [ho1]; omega
    refine (congrArg _ hu).trans ((pay1_nat i v7 v9 v13 v19 h13 h19 t _ _ k).trans ?_)
    have hr : (firstWin (i 0).val v19.toNat + t.val) * 128 + r.val % 128 = r.val := by omega
    have hX : VecWindow.window X (k0_off1 i v13 v19 t) S128x256.size (k0_off1_inb i v13 v19 hw t)
        (ix2 (⟨r.val % 128, Nat.mod_lt _ (by norm_num)⟩ : Fin 128) k) = X (ix2 r k) := by
      refine congrArg X (funext fun a => ?_)
      fin_cases a
      · refine Fin.ext ?_
        show k0_off1 i v13 v19 t 0 + 1 * (r.val % 128) = r.val
        rw [ho0]; omega
      · refine Fin.ext ?_
        show k0_off1 i v13 v19 t 1 + 1 * k.val = k.val
        rw [ho1]; omega
    rw [hX]
    exact congrArg (fun n => blockSum v7 v9 n k + _) hr
  · have hout : ¬ ∀ a, k0_off1 i v13 v19 t a ≤ ((ix2 r k : S10240x256.Idx) a).val
        ∧ ((ix2 r k : S10240x256.Idx) a).val < k0_off1 i v13 v19 t a + S128x256.size a := by
      intro h
      have h0 : k0_off1 i v13 v19 t 0 ≤ r.val ∧ r.val < k0_off1 i v13 v19 t 0 + 128 := h 0
      rw [ho0] at h0
      omega
    rw [dif_neg hout, if_neg hq]

/-- The first `n` trips at an index. -/
theorem trips0_apply (Y : Vec Ideal S10240x256 .f32) (r : Fin 10240) (k : Fin 256) (n : ℕ) (hn : n ≤ (k0_t1_loop i v13 v19).trips) :
    (trips0 (F := Ideal) i (BitVec.ofNat 32 (i 0).val) v7 v9 v13 v19 hw (startW i v19) Y n (ix2 r k) : EReal)
      = if firstWin (i 0).val v19.toNat ≤ r.val / 128 ∧ r.val / 128 < firstWin (i 0).val v19.toNat + n then
          blockSum v7 v9 r.val k + if (i 0).val = 0 ∨ firstWin (i 0).val v19.toNat < r.val / 128 then 0 else (Y (ix2 r k) : EReal)
        else (Y (ix2 r k) : EReal) := by
  induction n with
  | zero => rw [if_neg (by omega)]; rfl
  | succ n ih =>
    have e := trips0_succ (F := Ideal) i (BitVec.ofNat 32 (i 0).val) v7 v9 v13 v19 hw (startW i v19) Y ⟨n, hn⟩
    refine (congrFun e _).trans ((trip0_apply i v7 v9 v13 v19 h13 h19 hw ⟨n, hn⟩ _ r k).trans ?_)
    have ih' := ih (Nat.le_of_lt hn)
    dsimp only at ih' ⊢
    rw [ih']
    by_cases hq : r.val / 128 = firstWin (i 0).val v19.toNat + n
    · have hA : ¬ (firstWin (i 0).val v19.toNat ≤ r.val / 128 ∧ r.val / 128 < firstWin (i 0).val v19.toNat + n) := by omega
      have hB : firstWin (i 0).val v19.toNat ≤ r.val / 128 ∧ r.val / 128 < firstWin (i 0).val v19.toNat + (n + 1) := by omega
      rw [if_pos hq, if_neg hA, if_pos hB]
      congr 1
      exact if_congr (or_congr Iff.rfl (by omega)) rfl rfl
    · rw [if_neg hq]
      have hC : (firstWin (i 0).val v19.toNat ≤ r.val / 128 ∧ r.val / 128 < firstWin (i 0).val v19.toNat + n)
          ↔ (firstWin (i 0).val v19.toNat ≤ r.val / 128 ∧ r.val / 128 < firstWin (i 0).val v19.toNat + (n + 1)) := by omega
      exact if_congr hC rfl rfl

end Trips

/-- A grid point at an index. -/
theorem step0_apply (i : grid0.Coords) (X0 : Vec Ideal S2560x128 .f32) (X1 X2 : Vec Ideal S1x1x2560 .i32) (X3 : Vec Ideal S128x256 .bf16)
    (h13 : (maxW X1).toNat < 10000) (h19 : (maxP X2).toNat < 10000)
    (hw : k0_chk1 i (maxW X1) (maxP X2)) (Y : Vec Ideal S10240x256 .f32) (r : Fin 10240) (k : Fin 256) :
    (step0 (F := Ideal) i X0 X1 X2 X3 hw Y (ix2 r k) : EReal)
      = if firstWin (i 0).val (maxP X2).toNat ≤ r.val / 128 ∧ r.val / 128 ≤ lastWin (i 0).val (maxW X1).toNat then
          (∑ n : Fin 2560, if (X1 (ix3 0 0 n) : BitVec 32).toNat = r.val then
              max (∑ d : Fin 128, (X0 (ix2 n d) : EReal) * X3 (ix2 d k)) 0 else 0)
            + if (i 0).val = 0 ∨ firstWin (i 0).val (maxP X2).toNat < r.val / 128 then 0 else (Y (ix2 r k) : EReal)
        else (Y (ix2 r k) : EReal) := by
  unfold step0
  refine (trips0_apply i _ _ _ _ h13 h19 hw Y r k _ (le_refl _)).trans ?_
  rw [(loops_eq i h13 h19).2.1]
  have hb : blockSum (k0_pay3 (F := Ideal) X0 X3) (k0_pay4 X1) r.val k = ∑ n : Fin 2560, if (X1 (ix3 0 0 n) : BitVec 32).toNat = r.val then
              max (∑ d : Fin 128, (X0 (ix2 n d) : EReal) * X3 (ix2 d k)) 0 else 0 := by
    unfold blockSum
    refine Finset.sum_congr rfl fun n _ => ?_
    rw [pay4_apply, pay3_apply]
  rw [hb]
  exact if_congr (by omega) rfl rfl

end Cert.KernelIdeal.Hand

end
-- ==== Proof.KI.Blocks.lean ====
/-
  Which elements of its array a window of the two kernels shows at a grid point.
-/
module

public import proofs.«01_k».proof.Proof.KI.Region0
public import proofs.«01_k».proof.Proof.KI.Region1
public import Idealize.ShloMosaic.Lib.Pointwise
public import Idealize.ShloMosaic.Lib.Pipeline.ValueKit
public import Idealize.ShloMosaic.Lib.Pipeline.ArrRel

@[expose] public section

set_option maxRecDepth 16384

noncomputable section

namespace Cert.KernelIdeal.Hand

open Cert.KernelIdeal Cert.KernelIdeal.Gen Cert.Hand
open Idealize.ShloMosaic Idealize.ShloMosaic.TcCoe

variable {F : FTy → Type} [FloatOps F] [∀ e, Nonempty (Elt F e)]

/-- Kernel 0's point `t` is at coordinate `t`. -/
theorem coords0 : ∀ t : Fin cfg0.N, (grid0.coords t 0).val = t.val := by decide +kernel

/-- Kernel 0's block indices: the point's own, the one before, the whole weights. -/
theorem index0 : ∀ t : Fin cfg0.N, (cfg0.win 0).index t = ![t.val, 0] ∧ (cfg0.win 1).index t = ![t.val, 0, 0]
    ∧ (cfg0.win 2).index t = ![t.val - 1, 0, 0] ∧ (cfg0.win 3).index t = ![0, 0] := by decide +kernel

/-- Kernel 1's block indices. -/
theorem index1 : ∀ t : Fin cfg1.N, (cfg1.win 0).index t = ![t.val, 0] ∧ (cfg1.win 1).index t = ![0, 0]
    ∧ (cfg1.win 2).index t = ![0, 0] ∧ (cfg1.win 3).index t = ![0, 0] ∧ (cfg1.win 4).index t = ![t.val, 0] := by decide +kernel

variable (V : Valuation τ sig (Elt F))

/-- A block's row is a row of the list. -/
theorem lt125 (t : Fin cfg0.N) (n : Fin 2560) : t.val * 2560 + n.val < 320000 := by
  have h : t.val < 125 := t.isLt
  have := n.isLt
  omega

/-- Kernel 0's rows are those of its block. -/
theorem blk0_0 (t : Fin cfg0.N) (n : Fin 2560) (d : Fin 128) :
    blk0 V (0 : Fin 5) t (ix2 n d) = V (Proc.devRef .tc main_arg0) (ix2 (⟨t.val * 2560 + n.val, lt125 t n⟩ : Fin 320000) d) := by
  have e := (index0 t).1
  blk_ext [blk0, e]

/-- Its segment numbers are those of its block, -/
theorem blk0_1 (t : Fin cfg0.N) (n : Fin 2560) :
    blk0 V (1 : Fin 5) t (ix3 0 0 n) = V (Proc.devRef .tc main_v0) (ix3 (⟨t.val, t.isLt⟩ : Fin 125) 0 n) := by
  have e := (index0 t).2.1
  blk_ext [blk0, e]

/-- and of the one before; -/
theorem blk0_2 (t : Fin cfg0.N) (n : Fin 2560) :
    blk0 V (2 : Fin 5) t (ix3 0 0 n) = V (Proc.devRef .tc main_v0) (ix3 (⟨t.val - 1, lt_of_le_of_lt (Nat.sub_le _ _) t.isLt⟩ : Fin 125) 0 n) := by
  have e := (index0 t).2.2.1
  blk_ext [blk0, e]

/-- its weights are all of them. -/
theorem blk0_3 (t : Fin cfg0.N) (d : Fin 128) (k : Fin 256) :
    blk0 V (3 : Fin 5) t (ix2 d k) = V (Proc.devRef .tc main_v1) (ix2 d k) := by
  have e := (index0 t).2.2.2
  blk_ext [blk0, e]

/-- A row of kernel 1's block is a row of its array. -/
theorem lt5 (t : Fin cfg1.N) (r : Fin 2048) : t.val * 2048 + r.val < 10240 := by
  have h : t.val < 5 := t.isLt
  have := r.isLt
  omega

/-- Kernel 1's rows are those of its block, -/
theorem blk1_0 (t : Fin cfg1.N) (r : Fin 2048) (k : Fin 256) :
    blk1 V (0 : Fin 5) t (ix2 r k) = V (Proc.devRef .tc main_v2) (ix2 (⟨t.val * 2048 + r.val, lt5 t r⟩ : Fin 10240) k) := by
  have e := (index1 t).1
  blk_ext [blk1, e]

/-- and its weights all of them. -/
theorem blk1_1 (t : Fin cfg1.N) (k : Fin 256) (e : Fin 128) :
    blk1 V (1 : Fin 5) t (ix2 k e) = V (Proc.devRef .tc main_v3) (ix2 k e) := by
  have e := (index1 t).2.1
  blk_ext [blk1, e]

theorem blk1_2 (t : Fin cfg1.N) (e : Fin 128) (j : Fin 256) :
    blk1 V (2 : Fin 5) t (ix2 e j) = V (Proc.devRef .tc main_v4) (ix2 e j) := by
  have e := (index1 t).2.2.1
  blk_ext [blk1, e]

theorem blk1_3 (t : Fin cfg1.N) (j : Fin 256) (q : Fin 128) :
    blk1 V (3 : Fin 5) t (ix2 j q) = V (Proc.devRef .tc main_v5) (ix2 j q) := by
  have e := (index1 t).2.2.2.1
  blk_ext [blk1, e]

end Cert.KernelIdeal.Hand

end
-- ==== Proof.SegSum.lean ====
/-
  Summing by segment, block after block: a list of 320000 numbers in ascending order of their segments, 125 blocks of 2560, and the
  windows of 128 segments each block reaches. No program occurs here.
-/
module

public import proofs.«01_k».proof.Proof.Floor
public import Mathlib.Data.EReal.Basic
public import Mathlib.Data.EReal.Operations
public import Mathlib.Algebra.BigOperators.Fin
public import Mathlib.Algebra.BigOperators.Intervals

@[expose] public section

noncomputable section

namespace Cert.Hand

/-- The sum of the first `N` of the numbers `h` whose segment, by `s`, is `r`. -/
def segs (s : ℕ → ℕ) (h : ℕ → EReal) (N r : ℕ) : EReal := ∑ n ∈ Finset.range N, if s n = r then h n else 0

variable {s : ℕ → ℕ} {h : ℕ → EReal}

/-- A block more. -/
theorem segs_block (p r : ℕ) :
    segs s h ((p + 1) * 2560) r = segs s h (p * 2560) r + ∑ n : Fin 2560, if s (p * 2560 + n.val) = r then h (p * 2560 + n.val) else 0 := by
  unfold segs
  rw [Nat.add_mul, Nat.one_mul, Finset.sum_range_add, Finset.sum_range (n := 2560)]

/-- A sum over numbers of other segments is zero. -/
theorem segs_eq_zero {N r : ℕ} (hn : ∀ n < N, s n ≠ r) : segs s h N r = 0 :=
  Finset.sum_eq_zero fun n hn' => if_neg (hn n (Finset.mem_range.mp hn'))

/-- ONE BLOCK. Block `p`'s windows go from the one of the last segment of the block before to the one of its own last segment (at the first
    block from window 0, at the last block to window 78). If an entry held the sum of the blocks before, should its window be one those
    reached, it holds the sum of this block also, should its window be one reached by now: the first window adds, a later one starts anew. -/
theorem seg_step (hs : ∀ a b, a ≤ b → b < 320000 → s a ≤ s b) {p r : ℕ} (hp : p < 125) (y : EReal)
    (hy : p ≠ 0 → r / 128 ≤ s (p * 2560 - 1) / 128 → y = segs s h (p * 2560) r) (hr : r / 128 ≤ lastWin p (s (p * 2560 + 2559))) :
    (if firstWin p (s (p * 2560 - 1)) ≤ r / 128 ∧ r / 128 ≤ lastWin p (s (p * 2560 + 2559)) then
        (∑ n : Fin 2560, if s (p * 2560 + n.val) = r then h (p * 2560 + n.val) else 0)
          + if p = 0 ∨ firstWin p (s (p * 2560 - 1)) < r / 128 then 0 else y
      else y) = segs s h ((p + 1) * 2560) r := by
  rw [segs_block]
  by_cases h0 : p = 0
  · subst h0
    rw [if_pos ⟨Nat.zero_le _, hr⟩, if_pos (Or.inl rfl), add_zero, segs_eq_zero (fun n hn => absurd hn (by omega)), zero_add]
  have hf : firstWin p (s (p * 2560 - 1)) = s (p * 2560 - 1) / 128 := if_neg h0
  rw [hf]
  rcases lt_trichotomy (r / 128) (s (p * 2560 - 1) / 128) with hlt | heq | hgt
  · have hz : (∑ n : Fin 2560, if s (p * 2560 + n.val) = r then h (p * 2560 + n.val) else 0) = 0 :=
      Finset.sum_eq_zero fun n _ => if_neg fun e => by
        have := hs (p * 2560 - 1) (p * 2560 + n.val) (by omega) (by have := n.isLt; omega)
        omega
    rw [if_neg (fun e => by omega), hz, add_zero]
    exact hy h0 hlt.le
  · rw [if_pos ⟨heq.ge, hr⟩, if_neg (fun e => by omega), hy h0 heq.le, add_comm]
  · rw [if_pos ⟨hgt.le, hr⟩, if_pos (Or.inr hgt), add_zero, segs_eq_zero (fun n hn e => ?_), zero_add]
    have := hs n (p * 2560 - 1) (by omega) (by omega)
    omega

end Cert.Hand

end
-- ==== Proof.Closed.lean ====
/-
  The functions both programs are shown to compute, as plain mathematics of the arguments: segment numbers, hidden rows, and the sums of
  hidden rows by segment.
-/
module

public import proofs.«01_k».proof.Proof.SegSum
public import Idealize.ShloMosaic.Lib.Pointwise
public import Idealize.ShloMosaic.PureOps.Ideal

@[expose] public section

noncomputable section

namespace Cert.Hand

open Idealize.ShloMosaic

/-- The segment number of point `n`. -/
def segOf (a1 : IVec ⟨1, ![320000]⟩ 32) (n : ℕ) : ℕ := if h : n < 320000 then (a1 (ix1 ⟨n, h⟩)).toNat else 0

/-- The hidden row of point `n`, in column `k`: the point's row through the first matrix, negative values cut. -/
def hid (a0 : FVec Ideal ⟨2, ![320000, 128]⟩ .f32) (a2 : FVec Ideal ⟨2, ![128, 256]⟩ .f32) (k : Fin 256) (n : ℕ) : EReal :=
  if h : n < 320000 then max (∑ d : Fin 128, (a0 (ix2 ⟨n, h⟩ d) : EReal) * a2 (ix2 d k)) 0 else 0

theorem segOf_lt (a1 : IVec ⟨1, ![320000]⟩ 32) {n : ℕ} (h : n < 320000) : segOf a1 n = (a1 (ix1 ⟨n, h⟩)).toNat := dif_pos h

theorem hid_lt (a0 : FVec Ideal ⟨2, ![320000, 128]⟩ .f32) (a2 : FVec Ideal ⟨2, ![128, 256]⟩ .f32) (k : Fin 256) {n : ℕ} (h : n < 320000) :
    hid a0 a2 k n = max (∑ d : Fin 128, (a0 (ix2 ⟨n, h⟩ d) : EReal) * a2 (ix2 d k)) 0 := dif_pos h

/-- Segment numbers each at most the next are in ascending order. -/
theorem segOf_mono {a1 : IVec ⟨1, ![320000]⟩ 32}
    (h : ∀ n (h : n + 1 < 320000), (a1 (ix1 ⟨n, by omega⟩)).toNat ≤ (a1 (ix1 ⟨n + 1, h⟩)).toNat) (a b : ℕ) (hab : a ≤ b) (hb : b < 320000) :
    segOf a1 a ≤ segOf a1 b := by
  induction b, hab using Nat.le_induction with
  | base => exact le_refl _
  | succ b hab ih =>
    refine (ih (by omega)).trans ?_
    rw [segOf_lt a1 (by omega : b < 320000), segOf_lt a1 hb]
    exact h b hb

end Cert.Hand

end
-- ==== Proof.KI.Value0.lean ====
/-
  What kernel 0 leaves: at every row below 10000 the sum, over all points of that segment, of their hidden rows.
-/
module

public import proofs.«01_k».proof.Proof.KI.Step
public import proofs.«01_k».proof.Proof.KI.Blocks
public import proofs.«01_k».proof.Proof.KI.Frame
public import proofs.«01_k».proof.Proof.Closed

@[expose] public section

set_option maxRecDepth 16384

noncomputable section

namespace Cert.KernelIdeal.Hand

open Cert.KernelIdeal Cert.KernelIdeal.Gen Cert.Hand
open Idealize.ShloMosaic Idealize.ShloMosaic.TcCoe

section Value

variable (m : (ℓ : Loc nD τ sig) → Buf (Elt Ideal) ℓ) (c : Dev nD)

/-- The program's arguments the value is made of: the points, -/
abbrev arg0 : FVec Ideal S320000x128 .f32 := m (c, Proc.devRef .tc main_arg0)
/-- their segment numbers, -/
abbrev arg1 : IVec S320000 32 := m (c, Proc.devRef .tc main_arg1)
/-- and the first matrix. -/
abbrev arg2 : FVec Ideal S128x256 .f32 := m (c, Proc.devRef .tc main_arg2)

/-- The first matrix as kernel 0 finds it: itself. -/
theorem V1_v1 (d : Fin 128) (k : Fin 256) : (V1 m c (Proc.devRef .tc main_v1) (ix2 d k) : EReal) = arg2 m c (ix2 d k) := by
  have e : V1 m c (Proc.devRef .tc main_v1)
      = (truncf (F := Ideal) .bf16 (m (c, Proc.devRef .tc main_arg2) : FVec Ideal S128x256 .f32) bitsLt_bf16_f32 : FVec Ideal S128x256 .bf16) := by
    after_results <;> rfl
  rw [e]
  rfl

/-- The points as kernel 0 finds them. -/
theorem V1_arg0 : V1 m c (Proc.devRef .tc main_arg0) = m (c, Proc.devRef .tc main_arg0) := V1_keep m c main_arg0 (by decide)

/-- The segment numbers in blocks. -/
theorem V1_seg (p : Fin 125) (n : Fin 2560) :
    (V1 m c (Proc.devRef .tc main_v0) (ix3 p 0 n) : BitVec 32).toNat = segOf (arg1 m c) (p.val * 2560 + n.val) := by
  have hp := p.isLt
  have hn := n.isLt
  rw [V1_v0, segOf_lt _ (by omega)]
  refine congrArg BitVec.toNat ?_
  pointwise

variable (hr : ∀ i, (arg1 m c i).toNat < 10000) (hs : ∀ a b, a ≤ b → b < 320000 → segOf (arg1 m c) a ≤ segOf (arg1 m c) b)

/-- An index of a block of segment numbers is its last coordinate. -/
theorem eq_lane (j : S1x1x2560.Idx) : j = ix3 0 0 (j 2) := by
  funext a
  fin_cases a
  · exact Subsingleton.elim (α := Fin 1) _ _
  · exact Subsingleton.elim (α := Fin 1) _ _
  · rfl

include hr hs

/-- The largest segment number of a block is its last. -/
theorem maxW_last (t : Fin cfg0.N) : (maxW (blk0 (V1 m c) (1 : Fin 5) t)).toNat = segOf (arg1 m c) (t.val * 2560 + 2559) := by
  have ht : t.val < 125 := t.isLt
  obtain ⟨⟨j, e⟩, hle⟩ := maxW_spec (blk0 (V1 m c) (1 : Fin 5) t) (ranged1 (V1 m c) (ranged_V1 m c hr) t)
  have hb : ∀ n : Fin 2560, (blk0 (V1 m c) (1 : Fin 5) t (ix3 0 0 n) : BitVec 32).toNat = segOf (arg1 m c) (t.val * 2560 + n.val) := fun n => by
    rw [blk0_1, V1_seg]
  apply le_antisymm
  · have hn := (j 2).isLt
    rw [e, eq_lane j]
    refine (hb (j 2)).le.trans (hs _ _ ?_ (by omega))
    have : (j 2).val < 2560 := hn
    omega
  · have := hle (ix3 0 0 (⟨2559, by norm_num⟩ : Fin 2560))
    rwa [hb] at this

/-- The largest of the block before is the number before the block. -/
theorem maxP_last (t : Fin cfg0.N) (h0 : t.val ≠ 0) :
    (maxP (blk0 (V1 m c) (2 : Fin 5) t)).toNat = segOf (arg1 m c) (t.val * 2560 - 1) := by
  have ht : t.val < 125 := t.isLt
  obtain ⟨⟨j, e⟩, hle⟩ := maxP_spec (blk0 (V1 m c) (2 : Fin 5) t) (ranged2 (V1 m c) (ranged_V1 m c hr) t)
  have hb : ∀ n : Fin 2560, (blk0 (V1 m c) (2 : Fin 5) t (ix3 0 0 n) : BitVec 32).toNat = segOf (arg1 m c) ((t.val - 1) * 2560 + n.val) := fun n => by
    rw [blk0_2, V1_seg]
  apply le_antisymm
  · rw [e, eq_lane j]
    refine (hb (j 2)).le.trans (hs _ _ ?_ (by omega))
    have : (j 2).val < 2560 := (j 2).isLt
    omega
  · have := hle (ix3 0 0 (⟨2559, by norm_num⟩ : Fin 2560))
    rw [hb] at this
    rwa [show (t.val - 1) * 2560 + 2559 = t.val * 2560 - 1 from by omega] at this

/-- One step of kernel 0 at an index, in terms of the arguments. -/
theorem stepped_apply (t : Fin cfg0.N) {Y X : Vec Ideal S10240x256 .f32} (h : Stepped (V1 m c) t Y X) (r : Fin 10240) (k : Fin 256) :
    (X (ix2 r k) : EReal)
      = if firstWin t.val (segOf (arg1 m c) (t.val * 2560 - 1)) ≤ r.val / 128
            ∧ r.val / 128 ≤ lastWin t.val (segOf (arg1 m c) (t.val * 2560 + 2559)) then
          (∑ n : Fin 2560, if segOf (arg1 m c) (t.val * 2560 + n.val) = r.val then hid (arg0 m c) (arg2 m c) k (t.val * 2560 + n.val) else 0)
            + if t.val = 0 ∨ firstWin t.val (segOf (arg1 m c) (t.val * 2560 - 1)) < r.val / 128 then 0 else (Y (ix2 r k) : EReal)
        else (Y (ix2 r k) : EReal) := by
  obtain ⟨hw, rfl⟩ := h
  have h13 := maxW_lt _ (ranged1 (V1 m c) (ranged_V1 m c hr) t)
  have h19 := maxP_lt _ (ranged2 (V1 m c) (ranged_V1 m c hr) t)
  refine (step0_apply (grid0.coords t) _ _ _ _ h13 h19 hw Y r k).trans ?_
  have hf : firstWin t.val (maxP (blk0 (V1 m c) (2 : Fin 5) t)).toNat = firstWin t.val (segOf (arg1 m c) (t.val * 2560 - 1)) := by
    by_cases h0 : t.val = 0
    · unfold firstWin; rw [if_pos h0, if_pos h0]
    · rw [maxP_last m c hr hs t h0]
  rw [coords0 t, hf, maxW_last m c hr hs t]
  refine if_congr Iff.rfl (congrArg₂ (fun a b : EReal => a + b) (Finset.sum_congr rfl fun n _ => ?_) rfl) rfl
  rw [blk0_1, V1_seg, hid_lt _ _ _ (lt125 t n)]
  refine if_congr Iff.rfl (congrArg (fun a : EReal => max a 0) (Finset.sum_congr rfl fun d _ => ?_)) rfl
  rw [blk0_0, blk0_3, V1_v1, V1_arg0]

/-- THE SUMS SO FAR. After point `n` every entry whose window has been reached holds the sum over the blocks up to `n`. -/
theorem leaves0 (n : ℕ) : ∀ (hn : n < cfg0.N) (X : Vec Ideal S10240x256 .f32), (rd0 (V1 m c) c).Leaves (4 : Fin 5) ⟨n, hn⟩ X →
    ∀ (r : Fin 10240) (k : Fin 256), r.val / 128 ≤ lastWin n (segOf (arg1 m c) (n * 2560 + 2559)) →
      (X (ix2 r k) : EReal) = segs (segOf (arg1 m c)) (hid (arg0 m c) (arg2 m c) k) ((n + 1) * 2560) r.val := by
  induction n with
  | zero =>
    rintro hn X ⟨Y, -, hX⟩ r k hrow
    refine (stepped_apply m c hr hs ⟨0, hn⟩ hX r k).trans ?_
    exact seg_step hs (p := 0) (by norm_num) (Y (ix2 r k)) (fun h => absurd rfl h) hrow
  | succ n ih =>
    rintro hn X ⟨Y, hY, hX⟩ r k hrow
    have hn' : n + 1 < 125 := hn
    have hf := ((rd0 (V1 m c) c).finds_of_pos ((cfg0.win (4 : Fin 5)).fetch_out rfl ⟨n + 1, hn⟩) (Nat.succ_ne_zero n) Y).mp hY
    have hY : (rd0 (V1 m c) c).Leaves (4 : Fin 5) ⟨n, by omega⟩ Y := by
      refine hf.resolve_left fun h => ?_
      have h := (flush0_4 _).mp h
      have h : (n + 1 - 1) % 125 = 124 := h
      omega
    refine (stepped_apply m c hr hs ⟨n + 1, hn⟩ hX r k).trans ?_
    refine seg_step hs (p := n + 1) hn' (Y (ix2 r k)) (fun _ h => ih (by omega) Y hY r k ?_) hrow
    have e : (n + 1) * 2560 - 1 = n * 2560 + 2559 := by omega
    rw [e] at h
    unfold lastWin
    rwa [if_neg (by omega)]

/-- THE SUMS. What kernel 0 leaves in its output, at a row below 10000. -/
theorem value0 (G : Arr0 Ideal) (hG : (rd0 (V1 m c) c).ArrAt (4 : Fin 5) grid0.N G) (r : Fin 10240) (hrow : r.val < 10000) (k : Fin 256) :
    (G (ix2 r k) : EReal) = segs (segOf (arg1 m c)) (hid (arg0 m c) (arg2 m c) k) 320000 r.val := by
  obtain ⟨X, hX, hGX⟩ := hG.emb_eq_of_wholeAt (t₀ := (⟨124, by decide⟩ : Fin cfg0.N)) (by decide +kernel)
  have h := leaves0 m c hr hs 124 (by decide) X hX r k (by unfold lastWin; rw [if_pos rfl]; omega)
  refine Eq.trans ?_ h
  exact hGX (ix2 r k)

end Value

end Cert.KernelIdeal.Hand

end
-- ==== Proof.KI.Value1.lean ====
/-
  What kernel 1 leaves: the second network of every row that kernel 0 left.
-/
module

public import proofs.«01_k».proof.Proof.KI.Pay
public import proofs.«01_k».proof.Proof.KI.Blocks
public import proofs.«01_k».proof.Proof.KI.Frame

@[expose] public section

set_option maxRecDepth 16384

noncomputable section

namespace Cert.KernelIdeal.Hand

open Cert.KernelIdeal Cert.KernelIdeal.Gen Cert.Hand
open Idealize.ShloMosaic Idealize.ShloMosaic.TcCoe

section Value

variable (m : (ℓ : Loc nD τ sig) → Buf (Elt Ideal) ℓ) (c : Dev nD) (G : Arr0 Ideal)

/-- The other matrices of the program's arguments: the second of the point network, -/
abbrev arg4 : FVec Ideal S256x128 .f32 := m (c, Proc.devRef .tc main_arg4)
/-- the first of the second network, -/
abbrev arg6 : FVec Ideal S128x256 .f32 := m (c, Proc.devRef .tc main_arg6)
/-- and its second. -/
abbrev arg8 : FVec Ideal S256x128 .f32 := m (c, Proc.devRef .tc main_arg8)

/-- Kernel 1 finds them as they are, -/
theorem W3_v3 (k : Fin 256) (e : Fin 128) : (W3 m c G (Proc.devRef .tc main_v3) (ix2 k e) : EReal) = arg4 m c (ix2 k e) := by
  have h : W3 m c G (Proc.devRef .tc main_v3)
      = (truncf (F := Ideal) .bf16 (W2 m c G (Proc.devRef .tc main_arg4) : FVec Ideal S256x128 .f32) bitsLt_bf16_f32 : FVec Ideal S256x128 .bf16) := by
    after_results <;> rfl
  have h' : W2 m c G (Proc.devRef .tc main_arg4) = m (c, Proc.devRef .tc main_arg4) :=
    (Function.update_of_ne (StableHlo.devRef_ne_of_ne (by decide)) _ _).trans (V1_keep m c main_arg4 (by decide))
  rw [h, h']
  rfl

theorem W3_v4 (e : Fin 128) (j : Fin 256) : (W3 m c G (Proc.devRef .tc main_v4) (ix2 e j) : EReal) = arg6 m c (ix2 e j) := by
  have h : W3 m c G (Proc.devRef .tc main_v4)
      = (truncf (F := Ideal) .bf16 (W2 m c G (Proc.devRef .tc main_arg6) : FVec Ideal S128x256 .f32) bitsLt_bf16_f32 : FVec Ideal S128x256 .bf16) := by
    after_results <;> rfl
  have h' : W2 m c G (Proc.devRef .tc main_arg6) = m (c, Proc.devRef .tc main_arg6) :=
    (Function.update_of_ne (StableHlo.devRef_ne_of_ne (by decide)) _ _).trans (V1_keep m c main_arg6 (by decide))
  rw [h, h']
  rfl

theorem W3_v5 (j : Fin 256) (q : Fin 128) : (W3 m c G (Proc.devRef .tc main_v5) (ix2 j q) : EReal) = arg8 m c (ix2 j q) := by
  have h : W3 m c G (Proc.devRef .tc main_v5)
      = (truncf (F := Ideal) .bf16 (W2 m c G (Proc.devRef .tc main_arg8) : FVec Ideal S256x128 .f32) bitsLt_bf16_f32 : FVec Ideal S256x128 .bf16) := by
    after_results <;> rfl
  have h' : W2 m c G (Proc.devRef .tc main_arg8) = m (c, Proc.devRef .tc main_arg8) :=
    (Function.update_of_ne (StableHlo.devRef_ne_of_ne (by decide)) _ _).trans (V1_keep m c main_arg8 (by decide))
  rw [h, h']
  rfl

/-- and the sums as kernel 0 left them. -/
theorem W3_v2 : W3 m c G (Proc.devRef .tc main_v2) = G := by
  refine (StableHlo.after_of_writes_sub hostOps1 _ hostOps1_writes (by decide)).trans ?_
  exact Function.update_self _ _ _

/-- The second network of a row of sums `g`, in column `q`. -/
def net (g : Fin 256 → EReal) (a4 : FVec Ideal S256x128 .f32) (a6 : FVec Ideal S128x256 .f32) (a8 : FVec Ideal S256x128 .f32) (q : Fin 128) : EReal :=
  ∑ j : Fin 256, max (∑ k : Fin 256, g k * ∑ e : Fin 128, (a4 (ix2 k e) : EReal) * a6 (ix2 e j)) 0 * a8 (ix2 j q)

/-- What kernel 1 stores at a point, at an index. -/
theorem out1_apply (t : Fin cfg1.N) (r : Fin 2048) (q : Fin 128) :
    (out1 (W3 m c G) t (ix2 r q) : EReal)
      = net (fun k => G (ix2 (⟨t.val * 2048 + r.val, lt5 t r⟩ : Fin 10240) k)) (arg4 m c) (arg6 m c) (arg8 m c) q := by
  unfold out1 net
  refine (k1_pay1_apply _ _ _ _ r q).trans ?_
  refine Finset.sum_congr rfl fun j _ => congrArg₂ (fun a b : EReal => a * b) ?_ ?_
  · refine congrArg (fun a : EReal => max a 0) (Finset.sum_congr rfl fun k _ => congrArg₂ (fun a b : EReal => a * b) ?_ ?_)
    · rw [blk1_0, W3_v2]
    · refine Finset.sum_congr rfl fun e _ => congrArg₂ (fun a b : EReal => a * b) ?_ ?_
      · rw [blk1_1, W3_v3]
      · rw [blk1_2, W3_v4]
  · rw [blk1_3, W3_v5]

/-- WHAT KERNEL 1 LEAVES in its output. -/
theorem value1 (H : Arr1 Ideal) (hH : (rd1 (W3 m c G) c).ArrAt (4 : Fin 5) grid1.N H) (r : Fin 10240) (q : Fin 128) :
    (H (ix2 r q) : EReal) = net (fun k => G (ix2 r k)) (arg4 m c) (arg6 m c) (arg8 m c) q := by
  obtain ⟨X, hX, hA⟩ := hH.exists_exact
  rw [hA (Function.update (fun _ _ _ => Classical.arbitrary _) (4 : Fin 5) X) fun u _ _ => by rw [Function.update_self]]
  have h := Pipeline.Dat.arrAt_forall_of_covers
    ((rd1 (W3 m c G) c).withAfter (Function.update (fun _ _ _ => Classical.arbitrary _) (4 : Fin 5) X)) (4 : Fin 5)
    (fun i v => (v : EReal) = net (fun k => G (ix2 (i 0) k)) (arg4 m c) (arg6 m c) (arg8 m c) (i 1)) (by decide +kernel)
    (fun t hf y => ?_) (ix2 r q)
  · exact h
  · have e := (index1 t).2.2.2.2
    obtain ⟨Y, -, hY⟩ := hX t t.isLt hf
    have hY : X t = out1 (W3 m c G) t := hY
    have h0 : (((cfg1.win (4 : Fin 5)).blk t).view.emb y) = (ix2 (⟨t.val * 2048 + (y 0).val, lt5 t (y 0)⟩ : Fin 10240) (y 1 : Fin 128) : S10240x128.Idx) := by
      blk_ext [e]
    have hX' : (Function.update (fun _ _ _ => Classical.arbitrary _ : (w : Fin cfg1.W) → Fin cfg1.N → (cfg1.win w).block.Idx → Elt Ideal (cfg1.win w).elt)
        (4 : Fin 5) X) (4 : Fin 5) t y = out1 (W3 m c G) t y := by rw [Function.update_self, hY]
    have hy : (y : S2048x128.Idx) = ix2 (y 0) (y 1) := by
      funext a
      fin_cases a <;> rfl
    rw [h0]
    exact hX'.trans ((congrArg (out1 (W3 m c G) t) hy).trans (out1_apply m c G t (y 0) (y 1)))

/-- THE RESULT. The kernel's output is the first 10000 rows of that. -/
theorem value_out (H : Arr1 Ideal) (hH : (rd1 (W3 m c G) c).ArrAt (4 : Fin 5) grid1.N H) (r : Fin 10000) (q : Fin 128) :
    (W5 m c G H (Proc.devRef .tc main_v7) (ix2 r q) : EReal)
      = net (fun k => G (ix2 (⟨r.val, by have := r.isLt; omega⟩ : Fin 10240) k)) (arg4 m c) (arg6 m c) (arg8 m c) q := by
  have h : W5 m c G H (Proc.devRef .tc main_v7)
      = (extractStridedSlice S10000x128 ![0, 0] (W4 m c G H (Proc.devRef .tc main_v6) : FVec Ideal S10240x128 .f32)
          slices_S10240x128_S10000x128_0_0 : FVec Ideal S10000x128 .f32) := by
    after_results <;> rfl
  have h' : W4 m c G H (Proc.devRef .tc main_v6) = H := Function.update_self _ _ _
  rw [h, h']
  refine Eq.trans ?_ (value1 m c G H hH (⟨r.val, by have := r.isLt; omega⟩ : Fin 10240) q)
  pointwise

end Value

end Cert.KernelIdeal.Hand

end
-- ==== Proof.RefScatter.lean ====
/-
  The reference's sum by segment, read at an index at the ideal values.
-/
module

public import proofs.«01_k».proof.Proof.Gen.ReferenceIdeal
public import Idealize.ShloMosaic.Lib.Pointwise
public import Idealize.ShloMosaic.Lib.Routing.OpsPair
public import Idealize.ShloMosaic.PureOps.Ideal

@[expose] public section

set_option maxRecDepth 16384

noncomputable section

namespace Cert.ReferenceIdeal.Hand

open Cert.ReferenceIdeal Cert.ReferenceIdeal.Gen
open Idealize.ShloMosaic

/-- The scatter's dimension numbers. -/
abbrev sc := scatter_S10000x128_S320000x1_S320000x128_1_0_0_1

/-- An update's row reads its own segment number, -/
theorem sc_start0 (n : Fin 320000) (e : Fin 128) (idx : IVec S320000x1 32) : sc.start (ix2 n e : S320000x128.Idx) idx 0 = (idx (ix2 n 0)).toInt := by
  unfold ScatterDims.start
  rw [dif_pos (by decide)]
  refine congrArg (fun i => (idx i).toInt) ?_
  funext b
  fin_cases b <;> rfl

/-- and lands in its own column. -/
theorem sc_rest (n : Fin 320000) (e : Fin 128) (idx : IVec S320000x1 32) :
    sc.start (ix2 n e : S320000x128.Idx) idx 1 = 0 ∧ sc.window (ix2 n e : S320000x128.Idx) 0 = 0 ∧ sc.window (ix2 n e : S320000x128.Idx) 1 = e.val :=
  ⟨rfl, rfl, rfl⟩

/-- Where an update lands. -/
theorem sc_lands (n : Fin 320000) (e : Fin 128) (idx : IVec S320000x1 32) (r : Fin 10000) (q : Fin 128) :
    sc.resultIdx? (ix2 n e : S320000x128.Idx) idx = some (ix2 r q) ↔ (idx (ix2 n 0)).toInt = (r.val : ℤ) ∧ e = q := by
  obtain ⟨h1, h2, h3⟩ := sc_rest n e idx
  refine (Routing.resultIdx?_ix2 (R := 10000) (C := 128) sc _ idx r q).trans ?_
  rw [sc_start0, h1, h2, h3, Fin.ext_iff]
  constructor <;> rintro ⟨a, b⟩ <;> constructor <;> omega

/-- A SEGMENT'S SUM: at a row and a column the start plus the updates of that column whose segment is the row. -/
theorem scatter_apply (x : FVec Ideal S10000x128 .f32) (idx : IVec S320000x1 32) (u : FVec Ideal S320000x128 .f32)
    (hr : ∀ n : Fin 320000, (idx (ix2 n 0)).toNat < 10000) (r : Fin 10000) (q : Fin 128) :
    (Host.scatterAdd (F := Ideal) sc x idx u (ix2 r q) : EReal)
      = (x (ix2 r q) : EReal) + ∑ n : Fin 320000, if (idx (ix2 n 0)).toNat = r.val then (u (ix2 n q) : EReal) else 0 := by
  show (x (ix2 r q) : EReal) + ∑ j ∈ Finset.univ.filter (fun j => sc.resultIdx? j idx = some (ix2 r q)), (u j : EReal) = _
  refine congrArg (fun a : EReal => (x (ix2 r q) : EReal) + a) ?_
  rw [Finset.sum_filter]
  refine (sum_idx2 _).trans (Finset.sum_congr rfl fun n _ => ?_)
  have hn : (idx (ix2 n 0)).toInt = ((idx (ix2 n 0)).toNat : ℤ) := by
    have := hr n
    exact BitVec.toInt_eq_toNat_of_lt (by omega)
  have he : ∀ e : Fin 128, (if sc.resultIdx? (ix2 n e : S320000x128.Idx) idx = some (ix2 r q) then (u (ix2 n e) : EReal) else 0)
      = if e = q then (if (idx (ix2 n 0)).toNat = r.val then (u (ix2 n e) : EReal) else 0) else 0 := fun e => by
    rw [if_congr (sc_lands n e idx r q) rfl rfl, hn, ← ite_and]
    exact if_congr (by rw [and_comm]; simp) rfl rfl
  refine (Finset.sum_congr rfl fun e _ => he e).trans ?_
  rw [Finset.sum_ite_eq' Finset.univ q, if_pos (Finset.mem_univ q)]

end Cert.ReferenceIdeal.Hand

end
-- ==== Proof.RefValue.lean ====
/-
  What the reference leaves, at an index, its biases being zero.
-/
module

public import proofs.«01_k».proof.Proof.RefFrame
public import proofs.«01_k».proof.Proof.RefScatter
public import proofs.«01_k».proof.Proof.Closed

@[expose] public section

set_option maxRecDepth 16384

noncomputable section

namespace Cert.ReferenceIdeal.Hand

open Cert.ReferenceIdeal Cert.ReferenceIdeal.Gen Cert.Hand
open Idealize.ShloMosaic Idealize.ShloMosaic.TcCoe Idealize.SL.Sem

section Parts

variable {F : FTy → Type} [FloatOps F]

/-- The point network of every point. -/
def points (a0 : FVec F S320000x128 .f32) (a2 : FVec F S128x256 .f32) (a3 : FVec F S256 .f32) (a4 : FVec F S256x128 .f32) (a5 : FVec F S128 .f32) :
    FVec F S320000x128 .f32 :=
  addf (Host.dotGeneral dot_S320000x256_S256x128_S320000x128_1_0_0_1_n_n none
      (maximumf (addf (Host.dotGeneral dot_S320000x128_S128x256_S320000x256_1_0_0_1_n_n none a0 a2)
          (broadcastInDim S320000x256 ![0, 1] bcast_S1x256_S320000x256_0_1 (broadcastInDim S1x256 ![1] bcast_S256_S1x256_1 a3)))
        (broadcastInDim S320000x256 ![] bcast_S_S320000x256 (constant S_ .f32 0x00000000#32))) a4)
    (broadcastInDim S320000x128 ![0, 1] bcast_S1x128_S320000x128_0_1 (broadcastInDim S1x128 ![1] bcast_S128_S1x128_1 a5))

/-- Their sums by segment. -/
def sums (a1 : IVec S320000 32) (u : FVec F S320000x128 .f32) : FVec F S10000x128 .f32 :=
  Host.scatterAdd sc (broadcastInDim S10000x128 ![] bcast_S_S10000x128 (constant S_ .f32 0x00000000#32))
    (broadcastInDim S320000x1 ![0] bcast_S320000_S320000x1_0 a1) u

/-- The second network of every sum. -/
def second (s : FVec F S10000x128 .f32) (a6 : FVec F S128x256 .f32) (a7 : FVec F S256 .f32) (a8 : FVec F S256x128 .f32) (a9 : FVec F S128 .f32) :
    FVec F S10000x128 .f32 :=
  addf (Host.dotGeneral dot_S10000x256_S256x128_S10000x128_1_0_0_1_n_n none
      (maximumf (addf (Host.dotGeneral dot_S10000x128_S128x256_S10000x256_1_0_0_1_n_n none s a6)
          (broadcastInDim S10000x256 ![0, 1] bcast_S1x256_S10000x256_0_1 (broadcastInDim S1x256 ![1] bcast_S256_S1x256_1 a7)))
        (broadcastInDim S10000x256 ![] bcast_S_S10000x256 (constant S_ .f32 0x00000000#32))) a8)
    (broadcastInDim S10000x128 ![0, 1] bcast_S1x128_S10000x128_0_1 (broadcastInDim S1x128 ![1] bcast_S128_S1x128_1 a9))

end Parts

variable {a0 : FVec Ideal S320000x128 .f32} {a1 : IVec S320000 32} {a2 : FVec Ideal S128x256 .f32} {a3 : FVec Ideal S256 .f32}
  {a4 : FVec Ideal S256x128 .f32} {a5 : FVec Ideal S128 .f32} {a6 : FVec Ideal S128x256 .f32} {a7 : FVec Ideal S256 .f32}
  {a8 : FVec Ideal S256x128 .f32} {a9 : FVec Ideal S128 .f32}

/-- The point network at an index. -/
theorem points_apply (h3 : ∀ i, (a3 i : EReal) = 0) (h5 : ∀ i, (a5 i : EReal) = 0) (n : Fin 320000) (e : Fin 128) :
    (points (F := Ideal) a0 a2 a3 a4 a5 (ix2 n e) : EReal) = ∑ k : Fin 256, hid a0 a2 k n * a4 (ix2 k e) := by
  have hh : ∀ k : Fin 256, hid a0 a2 k n = max (∑ d : Fin 128, (a0 (ix2 n d) : EReal) * a2 (ix2 d k)) 0 := fun k => hid_lt a0 a2 k n.isLt
  simp only [hh]
  unfold points
  pointwise
  simp only [h3, h5, add_zero]

/-- A segment's sum at an index. -/
theorem sums_apply (hr : ∀ i, (a1 i).toNat < 10000) (u : FVec Ideal S320000x128 .f32) (r : Fin 10000) (e : Fin 128) :
    (sums (F := Ideal) a1 u (ix2 r e) : EReal) = ∑ n : Fin 320000, if segOf a1 n = r.val then (u (ix2 n e) : EReal) else 0 := by
  have hb : ∀ n : Fin 320000, (broadcastInDim S320000x1 ![0] bcast_S320000_S320000x1_0 a1 : IVec S320000x1 32) (ix2 n 0) = a1 (ix1 n) := fun n => by
    pointwise
  unfold sums
  refine (scatter_apply _ _ u (fun n => by rw [hb]; exact hr _) r e).trans ?_
  have h0 : ((broadcastInDim S10000x128 ![] bcast_S_S10000x128 (constant (F := Ideal) S_ .f32 0x00000000#32) : FVec Ideal S10000x128 .f32) (ix2 r e) : EReal) = 0 := by
    pointwise
  rw [h0, zero_add]
  refine Finset.sum_congr rfl fun n _ => if_congr ?_ rfl rfl
  rw [hb, segOf_lt a1 n.isLt]

/-- The second network at an index. -/
theorem second_apply (h7 : ∀ i, (a7 i : EReal) = 0) (h9 : ∀ i, (a9 i : EReal) = 0) (s : FVec Ideal S10000x128 .f32) (r : Fin 10000) (q : Fin 128) :
    (second (F := Ideal) s a6 a7 a8 a9 (ix2 r q) : EReal)
      = ∑ j : Fin 256, max (∑ e : Fin 128, (s (ix2 r e) : EReal) * a6 (ix2 e j)) 0 * a8 (ix2 j q) := by
  unfold second
  pointwise
  simp only [h7, h9, add_zero]

/-- THE RUN, its result in those parts. -/
theorem run_value {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v20) = second (sums (m ((c.tc : Thread nD τ).loc main_arg1))
          (points (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5))))
          (m ((c.tc : Thread nD τ).loc main_arg6)) (m ((c.tc : Thread nD τ).loc main_arg7)) (m ((c.tc : Thread nD τ).loc main_arg8))
          (m ((c.tc : Thread nD τ).loc main_arg9))
        ∧ ArgsKept m c r.2) :=
  Cert.ReferenceIdeal.Value.run m ρ

end Cert.ReferenceIdeal.Hand

end
-- ==== Proof.Reassoc.lean ====
/-
  Why the two networks may be joined over the sums: among finite values a sum of products through two matrices is the sum through the
  first, multiplied by the second. The biases between them are zero.
-/
module

public import proofs.«01_k».proof.Proof.Closed
public import proofs.«01_k».proof.Proof.PreGood

@[expose] public section

noncomputable section

namespace Cert.Hand

open Idealize.ShloMosaic

/-- A finite sum of real numbers is one. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- So is one of the chosen among them. -/
theorem coe_ite (p : Prop) [Decidable p] (x : ℝ) : (if p then (x : EReal) else 0) = ((if p then x else 0 : ℝ) : EReal) := by
  split <;> simp

/-- THE REASSOCIATION, for real entries. -/
theorem reassoc {N K E : ℕ} (p : Fin N → Prop) [DecidablePred p] (h : Fin N → Fin K → ℝ) (a : Fin K → Fin E → ℝ) (b : Fin E → ℝ) :
    (∑ k, (∑ n, if p n then (h n k : EReal) else 0) * ∑ e, (a k e : EReal) * (b e : EReal))
      = ∑ e, (∑ n, if p n then ∑ k, (h n k : EReal) * (a k e : EReal) else 0) * (b e : EReal) := by
  simp only [← EReal.coe_mul, coe_sum, coe_ite]
  refine congrArg _ ?_
  simp only [Finset.mul_sum, Finset.sum_mul, ← Finset.sum_filter]
  rw [Finset.sum_comm]
  refine Finset.sum_congr rfl fun e _ => ?_
  rw [Finset.sum_comm]
  refine (Finset.sum_congr rfl fun n _ => Finset.sum_congr rfl fun k _ => ?_)
  ring

variable {a0 : FVec Ideal ⟨2, ![320000, 128]⟩ .f32} {a2 : FVec Ideal ⟨2, ![128, 256]⟩ .f32}

/-- The hidden rows of finite points through a finite matrix are finite. -/
theorem hid_real (f0 : ∀ i, ∃ r : ℝ, (a0 i : EReal) = r) (f2 : ∀ i, ∃ r : ℝ, (a2 i : EReal) = r) (k : Fin 256) (n : ℕ) :
    ∃ r : ℝ, hid a0 a2 k n = r := by
  unfold hid
  split
  · choose x hx using f0
    choose w hw using f2
    rename_i h
    refine ⟨max (∑ d : Fin 128, x (ix2 ⟨n, h⟩ d) * w (ix2 d k)) 0, ?_⟩
    rw [EReal.coe_strictMono.monotone.map_max, ← coe_sum]
    simp only [hx, hw, EReal.coe_mul, EReal.coe_zero]
  · exact ⟨0, rfl⟩

/-- The sums of the hidden rows, through the two middle matrices joined, are the sums of the points' results through the second. -/
theorem joined (a1 : IVec ⟨1, ![320000]⟩ 32) (a4 : FVec Ideal ⟨2, ![256, 128]⟩ .f32) (a6 : FVec Ideal ⟨2, ![128, 256]⟩ .f32)
    (f0 : ∀ i, ∃ r : ℝ, (a0 i : EReal) = r) (f2 : ∀ i, ∃ r : ℝ, (a2 i : EReal) = r)
    (f4 : ∀ i, ∃ r : ℝ, (a4 i : EReal) = r) (f6 : ∀ i, ∃ r : ℝ, (a6 i : EReal) = r) (r : ℕ) (j : Fin 256) :
    (∑ k : Fin 256, segs (segOf a1) (hid a0 a2 k) 320000 r * ∑ e : Fin 128, (a4 (ix2 k e) : EReal) * a6 (ix2 e j))
      = ∑ e : Fin 128, (∑ n : Fin 320000, if segOf a1 n = r then ∑ k : Fin 256, hid a0 a2 k n * a4 (ix2 k e) else 0) * a6 (ix2 e j) := by
  choose h hh using fun k n => hid_real f0 f2 k n
  choose w4 h4 using f4
  choose w6 h6 using f6
  simp only [segs, Finset.sum_range, hh, h4, h6]
  exact reassoc (fun n : Fin 320000 => segOf a1 n = r) (fun n k => h k n) (fun k e => w4 (ix2 k e)) (fun e => w6 (ix2 e j))

end Cert.Hand

end
-- ==== Proof.Agree.lean ====
/-
  The kernel's result is the reference's: on sorted segment numbers in range, zero biases and finite points and matrices.
-/
module

public import proofs.«01_k».proof.Proof.KI.Value0
public import proofs.«01_k».proof.Proof.KI.Value1
public import proofs.«01_k».proof.Proof.KI.Frame
public import proofs.«01_k».proof.Proof.RefValue
public import proofs.«01_k».proof.Proof.Reassoc

@[expose] public section

set_option maxRecDepth 16384

noncomputable section

namespace Cert.KernelIdeal.Hand

open Cert.KernelIdeal Cert.KernelIdeal.Gen Cert.Hand
open Idealize.ShloMosaic Idealize.ShloMosaic.TcCoe
open Idealize.SL.Sem

section Agree

variable (m : (ℓ : Loc nD τ sig) → Buf (Elt Ideal) ℓ) (c : Dev nD)

/-- The first bias of the point network, -/
abbrev arg3 : FVec Ideal S256 .f32 := m (c, Proc.devRef .tc main_arg3)
/-- its second, -/
abbrev arg5 : FVec Ideal S128 .f32 := m (c, Proc.devRef .tc main_arg5)
/-- the first of the second network, -/
abbrev arg7 : FVec Ideal S256 .f32 := m (c, Proc.devRef .tc main_arg7)
/-- and its second. -/
abbrev arg9 : FVec Ideal S128 .f32 := m (c, Proc.devRef .tc main_arg9)

/-- The reference's result on the kernel's arguments. -/
def want : FVec Ideal S10000x128 .f32 :=
  Cert.ReferenceIdeal.Hand.second (Cert.ReferenceIdeal.Hand.sums (arg1 m c)
    (Cert.ReferenceIdeal.Hand.points (arg0 m c) (arg2 m c) (arg3 m c) (arg4 m c) (arg5 m c))) (arg6 m c) (arg7 m c) (arg8 m c) (arg9 m c)

/-- What the claim assumes of the arguments. -/
abbrev GoodArgs : Prop := Good (arg0 m c) (arg1 m c) (arg2 m c) (arg3 m c) (arg4 m c) (arg5 m c) (arg6 m c) (arg7 m c) (arg9 m c)

variable {m c}

/-- The reference's result at an index: the second network of the sums of the hidden rows, its first matrix joined with the one before. -/
theorem want_apply (h : GoodArgs m c) (r : Fin 10000) (q : Fin 128) :
    (want m c (ix2 r q) : EReal)
      = net (fun k => segs (segOf (arg1 m c)) (hid (arg0 m c) (arg2 m c) k) 320000 r.val) (arg4 m c) (arg6 m c) (arg8 m c) q := by
  unfold want net
  rw [Cert.ReferenceIdeal.Hand.second_apply h.b7 h.b9]
  refine Finset.sum_congr rfl fun j _ => congrArg (fun x : EReal => max x 0 * (arg8 m c (ix2 j q) : EReal)) ?_
  rw [joined (arg1 m c) (arg4 m c) (arg6 m c) h.f0 h.f2 h.f4 h.f6 r.val j]
  refine Finset.sum_congr rfl fun e _ => congrArg (fun x : EReal => x * (arg6 m c (ix2 e j) : EReal)) ?_
  rw [Cert.ReferenceIdeal.Hand.sums_apply h.range]
  refine Finset.sum_congr rfl fun n _ => if_congr Iff.rfl ?_ rfl
  exact Cert.ReferenceIdeal.Hand.points_apply h.b3 h.b5 n e

/-- THE AGREEMENT: whatever the two kernels leave, the result is the reference's. -/
theorem agree (h : GoodArgs m c) {G : Arr0 Ideal} {H : Arr1 Ideal} (hl : Leaves m rd0 rd1 c G H) :
    W5 m c G H (Proc.devRef .tc main_v7) = want m c := by
  funext i
  obtain ⟨r, q, rfl⟩ : ∃ (r : Fin 10000) (q : Fin 128), i = ix2 r q := ⟨i 0, i 1, by funext d; match d with | 0 => rfl | 1 => rfl⟩
  refine (value_out m c G H hl.2 r q).trans ?_
  rw [want_apply h]
  exact congrArg (fun g => net g (arg4 m c) (arg6 m c) (arg8 m c) q)
    (funext fun k => value0 m c h.range (segOf_mono h.step) G hl.1 _ r.isLt k)

/-- THE RUN, its result the reference's. -/
theorem run_want (ρ : Dev nD → PrngReg) (h : ∀ c, GoodArgs m c) :
    θ_run defs (onTc (τ := τ) (main (F := Ideal))) ⟨m, fun _ => 0, ρ⟩ (fun r => ∀ c : Dev nD,
      r.2.mem ((c.tc : Thread nD τ).loc main_v7) = want m c ∧ ArgsKept m c r.2) :=
  (θ_run defs _ _).mono (fun r hq c => by
    obtain ⟨G, H, hl, hr⟩ := hq.1 c
    exact ⟨(hr _ (Finset.mem_filter.mpr ⟨StableHlo.devRef_mem_tcRefs _, by decide⟩)).trans (agree (h c) hl), args_kept m c hr⟩)
    (run_ranged m ρ fun c => (h c).range)

end Agree

end Cert.KernelIdeal.Hand

end
-- ==== Proof.lean ====
/-
  The proof of `Cert.Claim` (proofs.«01_k».proof.Defs): the frames of the kernel, of its reading at the ideal values and of the reference,
  that the ideal program is the kernel's own, and that its result is the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_segments_in_range
public import proofs.«01_k».proof.Proof.Gen.Pre_sorted_finite_unbiased
public import proofs.«01_k».proof.Proof.KI.Frame
public import proofs.«01_k».proof.Proof.K.Frame
public import proofs.«01_k».proof.Proof.RefFrame
public import proofs.«01_k».proof.Proof.Pre
public import proofs.«01_k».proof.Proof.PreGood
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem Cert.Kernel

/-- The kernel's frame: with segment numbers in range it ends, its arguments unchanged and its counters at zero; -/
theorem frame_P : Cert.quiescent_Kernel (hKernel := Cert.Kernel.Gen.facts) (hPre_segments_in_range := Cert.Pre_segments_in_range.Gen.facts) :=
  fun m g h => Cert.Kernel.Hand.frame_ranged m g fun c => Cert.Hand.range_of_segments _ _ _ _ _ _ _ _ _ _ (h c)

/-- the same of its reading at the ideal values; -/
theorem frame_PI : Cert.quiescent_KernelIdeal (hKernelIdeal := Cert.KernelIdeal.Gen.facts) (hPre_segments_in_range := Cert.Pre_segments_in_range.Gen.facts) :=
  fun m g h => Cert.KernelIdeal.Hand.frame_ranged m g fun c => Cert.Hand.range_of_segments _ _ _ _ _ _ _ _ _ _ (h c)

/-- again, under what the value claim assumes; -/
theorem frame_PI_good : Cert.quiescent_KernelIdeal_pre_sorted_finite_unbiased (hKernelIdeal := Cert.KernelIdeal.Gen.facts)
    (hPre_sorted_finite_unbiased := Cert.Pre_sorted_finite_unbiased.Gen.facts) :=
  fun m g h => Cert.KernelIdeal.Hand.frame_ranged m g fun c => (Cert.Hand.good_of_pre (h c)).range

/-- of the reference, from any arguments; -/
theorem frame_RI : Cert.quiescent_ReferenceIdeal (hReferenceIdeal := Cert.ReferenceIdeal.Gen.facts) :=
  fun m g _ => Cert.ReferenceIdeal.Hand.frame m g

/-- again, under what the value claim assumes. -/
theorem frame_RI_good : Cert.quiescent_ReferenceIdeal_pre_sorted_finite_unbiased (hReferenceIdeal := Cert.ReferenceIdeal.Gen.facts)
    (hPre_sorted_finite_unbiased := Cert.Pre_sorted_finite_unbiased.Gen.facts) :=
  fun m g _ => Cert.ReferenceIdeal.Hand.frame m g

/-- The value claim: on sorted segment numbers in range, zero biases and finite points and matrices, the two results are equal. -/
theorem value : Cert.algebraic_KernelIdeal_ReferenceIdeal_pre_sorted_finite_unbiased (hKernelIdeal := Cert.KernelIdeal.Gen.facts)
    (hReferenceIdeal := Cert.ReferenceIdeal.Gen.facts) (hPre_sorted_finite_unbiased := Cert.Pre_sorted_finite_unbiased.Gen.facts) :=
  fun m g m' g' h e => ⟨fun c => Cert.KernelIdeal.Hand.want m c,
    Cert.KernelIdeal.Hand.run_want g fun c => Cert.Hand.good_of_pre (h c),
    (θ_run Cert.ReferenceIdeal.defs _ _).mono (fun r hr c => by
      obtain ⟨e0, e1, e2, e3, e4, e5, e6, e7, e8, e9⟩ := e c
      obtain ⟨hv, hk⟩ := hr c
      refine ⟨hv.trans ?_, hk⟩
      rw [e0, e1, e2, e3, e4, e5, e6, e7, e8, e9]
      rfl) (Cert.ReferenceIdeal.Hand.run_value m' g')⟩

theorem claim : Cert.Claim := ⟨Cert.Kernel.Gen.facts, Cert.KernelIdeal.Gen.facts, Cert.ReferenceIdeal.Gen.facts, Cert.Pre_segments_in_range.Gen.facts,
  Cert.Pre_sorted_finite_unbiased.Gen.facts, frame_P, frame_PI, frame_PI_good, frame_RI, frame_RI_good, trivial, value⟩

end Cert.Proof

end
